-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S8192x4096 : Shape := ⟨2, ![8192, 4096]⟩
abbrev S4 : Shape := ⟨1, ![4]⟩
abbrev S_ : Shape := ⟨0, ![]⟩
abbrev S2048x4096 : Shape := ⟨2, ![2048, 4096]⟩
abbrev S2048x256 : Shape := ⟨2, ![2048, 256]⟩
abbrev S1 : Shape := ⟨1, ![1]⟩
abbrev S4x2048x2048 : Shape := ⟨3, ![4, 2048, 2048]⟩
abbrev S3 : Shape := ⟨1, ![3]⟩
abbrev S1x2048x2048 : Shape := ⟨3, ![1, 2048, 2048]⟩
abbrev S2048x2048 : Shape := ⟨2, ![2048, 2048]⟩

abbrev nBuf : Space → Nat
  | .hbm => 34
  | .vmem => 5
  | .smem => 1
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S4, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8192x2048, .bf16⟩
  | .hbm, ⟨10, _⟩ => ⟨S4, .i32⟩
  | .hbm, ⟨11, _⟩ => ⟨S4, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S_, .i32⟩
  | .hbm, ⟨21, _⟩ => ⟨S4, .i32⟩
  | .hbm, ⟨22, _⟩ => ⟨S4, .i1⟩
  | .hbm, ⟨23, _⟩ => ⟨S_, .i32⟩
  | .hbm, ⟨24, _⟩ => ⟨S4, .i32⟩
  | .hbm, ⟨25, _⟩ => ⟨S4, .i1⟩
  | .hbm, ⟨26, _⟩ => ⟨S_, .i32⟩
  | .hbm, ⟨27, _⟩ => ⟨S_, .i1⟩
  | .hbm, ⟨28, _⟩ => ⟨S4, .i1⟩
  | .hbm, ⟨29, _⟩ => ⟨S4, .i1⟩
  | .hbm, ⟨30, _⟩ => ⟨S4, .i1⟩
  | .hbm, ⟨31, _⟩ => ⟨S4, .i32⟩
  | .hbm, ⟨32, _⟩ => ⟨S4, .i32⟩
  | .hbm, ⟨33, _⟩ => ⟨S2048x4096, .f32⟩
  | .local _ .vmem, ⟨0, _⟩ => ⟨S2048x256, .f32⟩
  | .local _ .vmem, ⟨1, _⟩ => ⟨S2048x256, .f32⟩
  | .local _ .vmem, ⟨2, _⟩ => ⟨S4x2048x2048, .bf16⟩
  | .local _ .vmem, ⟨3, _⟩ => ⟨S2048x256, .f32⟩
  | .local _ .vmem, ⟨4, _⟩ => ⟨S2048x256, .f32⟩
  | .local _ .smem, ⟨0, _⟩ => ⟨S4, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v9 : Ref sig .tc := ⟨.hbm, 33, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem0_1 : DmaSem sig := 1
abbrev barrier0 : Sem sig := 0

abbrev nD : Nat := 4
abbrev τ : Topo := Topo.v7x

variable {F : FTy → Type} [FloatOps F]

abbrev grid0 : Pipeline.Grid := ⟨2, ![4, 16], ![false, false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v50 : BitVec 32 := Scalar.addi v2 c1_i32_24
  let c4_i32_25 : BitVec 32 := 4#32
  let c0_i32_26 : BitVec 32 := 0#32
  let v51 : BitVec 1 := Scalar.cmpi .eq c4_i32_25 c0_i32_26
  let c1_i32_27 : BitVec 32 := 1#32
  let v52 : BitVec 32 := Scalar.select v51 c1_i32_27 c4_i32_25
  let v53 : BitVec 32 := Scalar.remsi v50 v52
  let c0_i32_29 : BitVec 32 := 0#32
  let v55 : BitVec 1 := Scalar.cmpi .slt v53 c0_i32_29
  let c0_i32_30 : BitVec 32 := 0#32
  let v56 : BitVec 1 := Scalar.cmpi .slt v52 c0_i32_30
  let v57 : BitVec 1 := Scalar.xori v55 v56
  let c0_i32_28 : BitVec 32 := 0#32
  let v54 : BitVec 1 := Scalar.cmpi .ne v53 c0_i32_28
  let v58 : BitVec 1 := Scalar.andi v57 v54
  let v59 : BitVec 32 := Scalar.addi v53 v52
  let v60 : BitVec 32 := Scalar.select v58 v59 v53
  let c1_i32_32 : BitVec 32 := 1#32
  let v61 : BitVec 32 := Scalar.muli v60 c1_i32_32
  let v62 : BitVec 32 := Scalar.addi c0_i32_33 v61
  v62.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_34 : BitVec 32 := 2#32
  let v63 : BitVec 32 := Scalar.addi v2 c2_i32_34
  let c4_i32_35 : BitVec 32 := 4#32
  let c0_i32_36 : BitVec 32 := 0#32
  let v64 : BitVec 1 := Scalar.cmpi .eq c4_i32_35 c0_i32_36
  let c1_i32_37 : BitVec 32 := 1#32
  let v65 : BitVec 32 := Scalar.select v64 c1_i32_37 c4_i32_35
  let v66 : BitVec 32 := Scalar.remsi v63 v65
  let c0_i32_39 : BitVec 32 := 0#32
  let v68 : BitVec 1 := Scalar.cmpi .slt v66 c0_i32_39
  let c0_i32_40 : BitVec 32 := 0#32
  let v69 : BitVec 1 := Scalar.cmpi .slt v65 c0_i32_40
  let v70 : BitVec 1 := Scalar.xori v68 v69
  let c0_i32_38 : BitVec 32 := 0#32
  let v67 : BitVec 1 := Scalar.cmpi .ne v66 c0_i32_38
  let v71 : BitVec 1 := Scalar.andi v70 v67
  let v72 : BitVec 32 := Scalar.addi v66 v65
  let v73 : BitVec 32 := Scalar.select v71 v72 v66
  let c1_i32_42 : BitVec 32 := 1#32
  let v74 : BitVec 32 := Scalar.muli v73 c1_i32_42
  let v75 : BitVec 32 := Scalar.addi c0_i32_43 v74
  v75.toNat
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_44 : BitVec 32 := 3#32
  let v76 : BitVec 32 := Scalar.addi v2 c3_i32_44
  let c4_i32_45 : BitVec 32 := 4#32
  let c0_i32_46 : BitVec 32 := 0#32
  let v77 : BitVec 1 := Scalar.cmpi .eq c4_i32_45 c0_i32_46
  let c1_i32_47 : BitVec 32 := 1#32
  let v78 : BitVec 32 := Scalar.select v77 c1_i32_47 c4_i32_45
  let v79 : BitVec 32 := Scalar.remsi v76 v78
  let c0_i32_49 : BitVec 32 := 0#32
  let v81 : BitVec 1 := Scalar.cmpi .slt v79 c0_i32_49
  let c0_i32_50 : BitVec 32 := 0#32
  let v82 : BitVec 1 := Scalar.cmpi .slt v78 c0_i32_50
  let v83 : BitVec 1 := Scalar.xori v81 v82
  let c0_i32_48 : BitVec 32 := 0#32
  let v80 : BitVec 1 := Scalar.cmpi .ne v79 c0_i32_48
  let v84 : BitVec 1 := Scalar.andi v83 v80
  let v85 : BitVec 32 := Scalar.addi v79 v78
  let v86 : BitVec 32 := Scalar.select v84 v85 v79
  let c1_i32_52 : BitVec 32 := 1#32
  let v87 : BitVec 32 := Scalar.muli v86 c1_i32_52
  let v88 : BitVec 32 := Scalar.addi c0_i32_53 v87
  v88.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v89 : BitVec 32 := Scalar.muli v2 c2048_i32
  let c0_i32_58 : BitVec 32 := 0#32
  ![v89.toNat, 0]
def k0_off3 (d0 : Dev nD) (c1_i32_59 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v93 : BitVec 32 := Scalar.addi v2 c1_i32_59
  let c4_i32_60 : BitVec 32 := 4#32
  let c0_i32_61 : BitVec 32 := 0#32
  let v94 : BitVec 1 := Scalar.cmpi .eq c4_i32_60 c0_i32_61
  let c1_i32_62 : BitVec 32 := 1#32
  let v95 : BitVec 32 := Scalar.select v94 c1_i32_62 c4_i32_60
  let v96 : BitVec 32 := Scalar.remsi v93 v95
  let c0_i32_64 : BitVec 32 := 0#32
  let v98 : BitVec 1 := Scalar.cmpi .slt v96 c0_i32_64
  let c0_i32_65 : BitVec 32 := 0#32
  let v99 : BitVec 1 := Scalar.cmpi .slt v95 c0_i32_65
  let v100 : BitVec 1 := Scalar.xori v98 v99
  let c0_i32_63 : BitVec 32 := 0#32
  let v97 : BitVec 1 := Scalar.cmpi .ne v96 c0_i32_63
  let v101 : BitVec 1 := Scalar.andi v100 v97
  let v102 : BitVec 32 := Scalar.addi v96 v95
  let v103 : BitVec 32 := Scalar.select v101 v102 v96
  let c2048_i32_66 : BitVec 32 := 2048#32
  let v104 : BitVec 32 := Scalar.muli v103 c2048_i32_66
  let c0_i32_74 : BitVec 32 := 0#32
  ![v104.toNat, 0]
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_59 : BitVec 32 := 1#32
  let v93 : BitVec 32 := Scalar.addi v2 c1_i32_59
  let c4_i32_60 : BitVec 32 := 4#32
  let c0_i32_61 : BitVec 32 := 0#32
  let v94 : BitVec 1 := Scalar.cmpi .eq c4_i32_60 c0_i32_61
  let c1_i32_62 : BitVec 32 := 1#32
  let v95 : BitVec 32 := Scalar.select v94 c1_i32_62 c4_i32_60
  let v96 : BitVec 32 := Scalar.remsi v93 v95
  let c0_i32_64 : BitVec 32 := 0#32
  let v98 : BitVec 1 := Scalar.cmpi .slt v96 c0_i32_64
  let c0_i32_65 : BitVec 32 := 0#32
  let v99 : BitVec 1 := Scalar.cmpi .slt v95 c0_i32_65
  let v100 : BitVec 1 := Scalar.xori v98 v99
  let c0_i32_63 : BitVec 32 := 0#32
  let v97 : BitVec 1 := Scalar.cmpi .ne v96 c0_i32_63
  let v101 : BitVec 1 := Scalar.andi v100 v97
  let v102 : BitVec 32 := Scalar.addi v96 v95
  let v103 : BitVec 32 := Scalar.select v101 v102 v96
  let c1_i32_70 : BitVec 32 := 1#32
  let v105 : BitVec 32 := Scalar.muli v103 c1_i32_70
  let v106 : BitVec 32 := Scalar.addi c0_i32_71 v105
  v106.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_75 : BitVec 32 := 2#32
  let v114 : BitVec 32 := Scalar.addi v2 c2_i32_75
  let c4_i32_76 : BitVec 32 := 4#32
  let c0_i32_77 : BitVec 32 := 0#32
  let v115 : BitVec 1 := Scalar.cmpi .eq c4_i32_76 c0_i32_77
  let c1_i32_78 : BitVec 32 := 1#32
  let v116 : BitVec 32 := Scalar.select v115 c1_i32_78 c4_i32_76
  let v117 : BitVec 32 := Scalar.remsi v114 v116
  let c0_i32_80 : BitVec 32 := 0#32
  let v119 : BitVec 1 := Scalar.cmpi .slt v117 c0_i32_80
  let c0_i32_81 : BitVec 32 := 0#32
  let v120 : BitVec 1 := Scalar.cmpi .slt v116 c0_i32_81
  let v121 : BitVec 1 := Scalar.xori v119 v120
  let c0_i32_79 : BitVec 32 := 0#32
  let v118 : BitVec 1 := Scalar.cmpi .ne v117 c0_i32_79
  let v122 : BitVec 1 := Scalar.andi v121 v118
  let v123 : BitVec 32 := Scalar.addi v117 v116
  let v124 : BitVec 32 := Scalar.select v122 v123 v117
  let c1_i32_86 : BitVec 32 := 1#32
  let v126 : BitVec 32 := Scalar.muli v124 c1_i32_86
  let v127 : BitVec 32 := Scalar.addi c0_i32_87 v126
  v127.toNat
def k0_dev6 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_91 : BitVec 32 := 3#32
  let v135 : BitVec 32 := Scalar.addi v2 c3_i32_91
  let c4_i32_92 : BitVec 32 := 4#32
  let c0_i32_93 : BitVec 32 := 0#32
  let v136 : BitVec 1 := Scalar.cmpi .eq c4_i32_92 c0_i32_93
  let c1_i32_94 : BitVec 32 := 1#32
  let v137 : BitVec 32 := Scalar.select v136 c1_i32_94 c4_i32_92
  let v138 : BitVec 32 := Scalar.remsi v135 v137
  let c0_i32_96 : BitVec 32 := 0#32
  let v140 : BitVec 1 := Scalar.cmpi .slt v138 c0_i32_96
  let c0_i32_97 : BitVec 32 := 0#32
  let v141 : BitVec 1 := Scalar.cmpi .slt v137 c0_i32_97
  let v142 : BitVec 1 := Scalar.xori v140 v141
  let c0_i32_95 : BitVec 32 := 0#32
  let v139 : BitVec 1 := Scalar.cmpi .ne v138 c0_i32_95
  let v143 : BitVec 1 := Scalar.andi v142 v139
  let v144 : BitVec 32 := Scalar.addi v138 v137
  let v145 : BitVec 32 := Scalar.select v143 v144 v138
  let c1_i32_102 : BitVec 32 := 1#32
  let v147 : BitVec 32 := Scalar.muli v145 c1_i32_102
  let v148 : BitVec 32 := Scalar.addi c0_i32_103 v147
  v148.toNat
def k0_cond5 (i : grid0.Coords) : BitVec 1 :=
  let arg0 : BitVec 32 := BitVec.ofNat 32 (i 0).val
  let c0_i32_9 : BitVec 32 := 0#32
  let v23 : BitVec 1 := Scalar.cmpi .sgt arg0 c0_i32_9
  let v24 : BitVec 32 := Scalar.extui v23
  let c0_i32_10 : BitVec 32 := 0#32
  let v25 : BitVec 1 := Scalar.cmpi .ne v24 c0_i32_10
  v25

def k0_off4 (i : grid0.Coords) : Fin 2 → Nat :=
  let c0_i32_25 : BitVec 32 := 0#32
  let arg1 : BitVec 32 := BitVec.ofNat 32 (i 1).val
  let c256_i32_24 : BitVec 32 := 256#32
  let v49 : BitVec 32 := Scalar.muli arg1 c256_i32_24
  ![0, v49.toNat]
def k0_off5 (i : grid0.Coords) : Fin 2 → Nat :=
  let c0_i32_20 : BitVec 32 := 0#32
  let arg1 : BitVec 32 := BitVec.ofNat 32 (i 1).val
  let c256_i32 : BitVec 32 := 256#32
  let v41 : BitVec 32 := Scalar.muli arg1 c256_i32
  ![0, v41.toNat]
def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  ![v1.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Common.lean ====
/-
  The device arithmetic, the views and the buffers' pieces of the fused all-to-all and matrix-product kernel.

  Device c keeps the four row blocks of its x at home and receives into the four slots of its xg: slot s holds the rows
  that device `snd c s` has for c. The x buffer and xg are split into their blocks and slots here and joined again.
-/
module

public import proofs.«01_k».proof.Proof.Gen.KernelIdeal.Skeleton
public import proofs.«01_k».proof.Proof.Gen.KernelIdeal.Launch
public import proofs.«01_k».proof.Proof.Gen.KernelIdeal.Regions
public import Idealize.ShloMosaic.Lib.Rounds
public import Idealize.ShloMosaic.Lib.Tactic
public import Idealize.ShloMosaic.Lib.Exec
public import Idealize.ShloMosaic.Lib.Writes
public import Idealize.ShloMosaic.Lib.Pipeline.Regions
public import Idealize.ShloMosaic.Lib.Pipeline.Kit
public import Idealize.ShloMosaic.Lib.Pipeline.ValueKit.Geometry
public import Idealize.ShloMosaic.Lib.ViewIndex

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices -/

/-- The device n places after c. -/
def rot (c : Dev nD) (n : ℕ) : Dev nD := ⟨(c.val + n) % 4, Nat.mod_lt _ (by decide)⟩

/-- How far device c's j-th send goes: one, two, three places. -/
def far (j : Fin 3) : ℕ := j.val + 1
/-- The slot the j-th send fills on its receiver. -/
def slotOf : Fin 3 → Fin 4 := fun | 0 => 1 | 1 => 3 | 2 => 2
/-- The receive semaphore the j-th send credits on its receiver. -/
def recvOf : Fin 3 → Fin 3 := fun | 0 => 0 | 1 => 2 | 2 => 1
/-- The device whose rows slot s of c holds, counted in places after c. -/
def back : Fin 4 → ℕ := fun | 0 => 0 | 1 => 3 | 2 => 1 | 3 => 2
/-- The device whose rows slot s of c holds. -/
def snd (c : Dev nD) (s : Fin 4) : Dev nD := rot c (back s)

/-- The device that the first signal goes to. -/
theorem dev1_eq (c : Dev nD) : k0_dev1 c = (rot c 1).val := by revert c; decide
/-- The device that the second signal goes to. -/
theorem dev2_eq (c : Dev nD) : k0_dev2 c = (rot c 2).val := by revert c; decide
/-- The device that the third signal goes to. -/
theorem dev3_eq (c : Dev nD) : k0_dev3 c = (rot c 3).val := by revert c; decide
/-- The device that the first send goes to. -/
theorem dev4_eq (c : Dev nD) : k0_dev4 c = (rot c 1).val := by revert c; decide
/-- The device that the second send goes to. -/
theorem dev5_eq (c : Dev nD) : k0_dev5 c = (rot c 2).val := by revert c; decide
/-- The device that the third send goes to. -/
theorem dev6_eq (c : Dev nD) : k0_dev6 c = (rot c 3).val := by revert c; decide

/-- Where the device's own rows start. -/
theorem off2_eq (c : Dev nD) : k0_off2 c = ![2048 * c.val, 0] := by revert c; decide
/-- Where the rows of the j-th send start. -/
theorem off3_eq (c : Dev nD) (j : Fin 3) : k0_off3 c (BitVec.ofNat 32 (1 + j.val)) = ![2048 * (rot c (far j)).val, 0] := by
  revert c j; decide

/-- No send goes to the sender. -/
theorem rot_ne (c : Dev nD) (j : Fin 3) : rot c (far j) ≠ c := by revert c j; decide
/-- The slot a send fills is the receiver's slot for the sender. -/
theorem snd_rot (c : Dev nD) (j : Fin 3) : snd (rot c (far j)) (slotOf j) = c := by revert c j; decide
/-- Slot 0 is the device's own. -/
theorem snd_zero (c : Dev nD) : snd c 0 = c := by revert c; decide

/-! ## Buffers and views -/

/-- The rows that are sent. -/
abbrev xM : Memref sig .tc .hbm S8192x2048 .bf16 := Memref.whole main_v5
/-- The result. -/
abbrev yM : Memref sig .tc .hbm S2048x4096 .f32 := Memref.whole main_v9
/-- The gathered rows, in four slots. -/
abbrev gM : Memref sig .tc .vmem S4x2048x2048 .bf16 := Memref.whole cc0_scratch0
/-- The block of the result before a step. -/
abbrev iM : Memref sig .tc .vmem S2048x256 .f32 := Memref.whole cc0_scratch1
/-- And after it. -/
abbrev oM : Memref sig .tc .vmem S2048x256 .f32 := Memref.whole cc0_scratch2

/-- Every row block lies inside x. -/
theorem rowInb (b : Fin 4) : ∀ a, (![2048 * b.val, 0] : Fin 2 → Nat) a + S2048x2048.size a ≤ S8192x2048.size a := by
  revert b; decide
/-- Every slot lies inside xg. -/
theorem slotInb (s : Fin 4) : ∀ a, (![s.val, 0, 0] : Fin 3 → Nat) a + S1x2048x2048.size a ≤ S4x2048x2048.size a := by
  revert s; decide

/-- Row block b of x. -/
abbrev rowM (b : Fin 4) : Memref sig .tc .hbm S2048x2048 .bf16 :=
  xM.slice (Rect.unit (s := S8192x2048) ![2048 * b.val, 0] S2048x2048.size (rowInb b)) (fun _ => rfl)
/-- Slot s of xg. -/
abbrev slotM (s : Fin 4) : Memref sig .tc .vmem S2048x2048 .bf16 :=
  (gM.slice (Rect.unit (s := S4x2048x2048) ![s.val, 0, 0] S1x2048x2048.size (slotInb s)) (fun _ => rfl)).squeeze
    S2048x2048 squeezes_S1x2048x2048_S2048x2048

/-- A slice of x at offsets that are a row block's is the row block. -/
theorem slice_row {off : Fin 2 → Nat} {inb} {b : Fin 4} (h : off = ![2048 * b.val, 0]) :
    xM.slice (Rect.unit (s := S8192x2048) off S2048x2048.size inb) (fun _ => rfl) = rowM b := by
  subst h; rfl

/-- The elements of a row block, by their first coordinate. -/
theorem row_set (b : Fin 4) (i : S8192x2048.Idx) :
    (i ∈ (rowM b).view.set) = (2048 * b.val ≤ (i 0).val ∧ (i 0).val < 2048 * b.val + 2048) := by
  show (i ∈ ((View.whole main_v5).slice (Rect.unit (s := S8192x2048) ![2048 * b.val, 0] S2048x2048.size (rowInb b))).set) = _
  rw [View.set_slice_whole, Rect.mem_set_unit]
  refine propext (Iff.intro (fun h => ⟨(h 0).1, (h 0).2⟩) ?_)
  rintro ⟨h1, h2⟩ a
  match a with
  | 0 => exact ⟨h1, h2⟩
  | 1 => exact ⟨Nat.zero_le _, by have := (i 1).isLt; exact (Nat.zero_add 2048).symm ▸ this⟩

/-- The elements of a slot, by their first coordinate. -/
theorem slot_set (s : Fin 4) (i : S4x2048x2048.Idx) : (i ∈ (slotM s).view.set) = ((i 0).val = s.val) := by
  rw [Memref.set_view_squeeze]
  show (i ∈ ((View.whole cc0_scratch0).slice (Rect.unit (s := S4x2048x2048) ![s.val, 0, 0] S1x2048x2048.size (slotInb s))).set) = _
  rw [View.set_slice_whole, Rect.mem_set_unit]
  refine propext (Iff.intro (fun h => by have := h 0; exact Nat.le_antisymm (Nat.lt_succ_iff.mp this.2) this.1) ?_)
  intro h a
  match a with
  | 0 => exact ⟨Nat.le_of_eq h.symm, by rw [h]; exact Nat.lt_succ_self _⟩
  | 1 => exact ⟨Nat.zero_le _, by have := (i 1).isLt; exact (Nat.zero_add 2048).symm ▸ this⟩
  | 2 => exact ⟨Nat.zero_le _, by have := (i 2).isLt; exact (Nat.zero_add 2048).symm ▸ this⟩

/-- Contents read alike through a view agree on its elements. -/
theorem eq_on_of_read {κ : Kind} {sp : Space} {s : Shape} {e : EltTy} (v : View sig κ sp s e) {f g : v.ty.Contents (Elt F)}
    (h : v.read (Elt F) f = v.read (Elt F) g) : ∀ i ∈ v.set, f i = g i := fun i hi => by
  obtain ⟨x, rfl⟩ := View.exists_emb_of_mem_set v hi
  exact View.eq_of_read_eq (congrFun h x)

/-! ## The contents of xg once every block has landed -/

/-- Rows [2048 * b, 2048 * b + 2048) of a device's x, at (row, column). -/
def rowIx (b : Fin 4) (r k : Fin 2048) : S8192x2048.Idx :=
  fun | 0 => (⟨2048 * b.val + r.val, by have := b.isLt; have := r.isLt; omega⟩ : Fin 8192) | 1 => (⟨k.val, k.isLt⟩ : Fin 2048)

/-- What device c's xg holds once filled, of every device's x: slot s the rows device `snd c s` has for c. -/
def xg (X : Dev nD → (main_v5 : Ref sig .tc).ty.Contents (Elt F)) (c : Dev nD) : (cc0_scratch0 : Ref sig .tc).ty.Contents (Elt F) :=
  fun i => X (snd c (i 0)) (rowIx c (i 1) (i 2))

/-- Slot s of the filled xg reads as the sender's row block c. -/
theorem read_xg (X : Dev nD → (main_v5 : Ref sig .tc).ty.Contents (Elt F)) (c : Dev nD) (s : Fin 4) :
    (slotM s).view.read (Elt F) (xg X c) = (rowM c).view.read (Elt F) (X (snd c s)) := by
  have hc : S1x2048x2048.ShapeCasts S2048x2048 := shapeCasts_S1x2048x2048_S2048x2048
  refine (Memref.read_squeeze_slice gM (Rect.unit (s := S4x2048x2048) ![s.val, 0, 0] S1x2048x2048.size (slotInb s)) (fun _ => rfl)
    squeezes_S1x2048x2048_S2048x2048 hc (xg X c)).trans (funext fun x => ?_)
  refine (shapeCast_dropUnit_apply ![2048, 2048] _ hc x).trans ?_
  show X _ _ = X _ _
  congr 2
  funext a
  match a with
  | 0 =>
    refine Fin.ext ?_
    show 2048 * c.val + (0 + 1 * (x 0).val) = 2048 * c.val + 1 * (x 0).val
    omega
  | 1 => rfl

/-- The copy of the sender's row block c into slot s leaves there what the filled xg has. -/
theorem landed (X : Dev nD → (main_v5 : Ref sig .tc).ty.Contents (Elt F)) (c : Dev nD) (s : Fin 4)
    (fd : (cc0_scratch0 : Ref sig .tc).ty.Contents (Elt F)) :
    ∀ i ∈ (slotM s).view.set, (slotM s).view.write (Elt F) fd ((rowM c).view.read (Elt F) (X (snd c s))) Finset.univ i = xg X c i :=
  eq_on_of_read _ (by rw [View.read_write_univ, read_xg])

/-! ## The buffers, split and joined -/

section Split

variable {U : Type} [URA U]

local notation "𝕄" => MT nD τ sig Unit (Elt F) ℕ U ℕ

/-- Two row blocks do not meet. -/
theorem rows_disjoint (b b' : Fin 4) (h : b ≠ b') : Disjoint (rowM b).view.set (rowM b').view.set :=
  Finset.disjoint_left.mpr fun i h1 h2 => by
    rw [row_set] at h1 h2
    exact h (Fin.ext (by omega))
/-- Two slots do not meet. -/
theorem slots_disjoint (s s' : Fin 4) (h : s ≠ s') : Disjoint (slotM s).view.set (slotM s').view.set :=
  Finset.disjoint_left.mpr fun i h1 h2 => by
    rw [slot_set] at h1 h2
    exact h (Fin.ext (h1.symm.trans h2))
/-- The row blocks make up x. -/
theorem rows_cover : (Finset.univ : Finset (Fin 4)).biUnion (fun b => (rowM b).view.set) = (Finset.univ : Finset S8192x2048.Idx) := by
  refine Finset.eq_univ_iff_forall.mpr fun i => Finset.mem_biUnion.mpr ?_
  have h : (i 0).val < 8192 := (i 0).isLt
  refine ⟨⟨(i 0).val / 2048, by omega⟩, Finset.mem_univ _, ?_⟩
  rw [row_set]
  constructor <;> dsimp only <;> omega
/-- The slots make up xg. -/
theorem slots_cover : (Finset.univ : Finset (Fin 4)).biUnion (fun s => (slotM s).view.set) = (Finset.univ : Finset S4x2048x2048.Idx) := by
  refine Finset.eq_univ_iff_forall.mpr fun i => Finset.mem_biUnion.mpr ?_
  exact ⟨i 0, Finset.mem_univ _, Eq.mpr (slot_set (i 0) i) rfl⟩

/-- Row block b of device c's x at contents f. -/
abbrev rowPts (c : Dev nD) (b : Fin 4) (f : (main_v5 : Ref sig .tc).ty.Contents (Elt F)) : sProp 𝕄 :=
  (rowM b).view.loc (c : Thread nD τ) ↦[(rowM b).view.set]{fullShare} f
/-- Slot s of device c's xg at contents f. -/
abbrev slotPts (c : Dev nD) (s : Fin 4) (f : (cc0_scratch0 : Ref sig .tc).ty.Contents (Elt F)) : sProp 𝕄 :=
  (slotM s).view.loc (c : Thread nD τ) ↦[(slotM s).view.set]{fullShare} f

/-- Holding x is holding its row blocks. -/
theorem rows_split (c : Dev nD) (f : (main_v5 : Ref sig .tc).ty.Contents (Elt F)) :
    ((c : Thread nD τ).loc main_v5 ↦{fullShare} f : sProp 𝕄) = bigSep Finset.univ fun b => rowPts c b f := by
  rw [← pointsTo_biUnion (ℓ := (c : Thread nD τ).loc main_v5) Finset.univ (fun b => (rowM b).view.set) fun b _ b' _ h => rows_disjoint b b' h]
  exact congrArg (fun S => ((c : Thread nD τ).loc main_v5 ↦[S]{fullShare} f : sProp 𝕄)) rows_cover.symm
/-- Holding xg is holding its slots. -/
theorem slots_split (c : Dev nD) (f : (cc0_scratch0 : Ref sig .tc).ty.Contents (Elt F)) :
    ((c : Thread nD τ).loc cc0_scratch0 ↦{fullShare} f : sProp 𝕄) = bigSep Finset.univ fun s => slotPts c s f := by
  rw [← pointsTo_biUnion (ℓ := (c : Thread nD τ).loc cc0_scratch0) Finset.univ (fun s => (slotM s).view.set) fun b _ b' _ h => slots_disjoint b b' h]
  exact congrArg (fun S => ((c : Thread nD τ).loc cc0_scratch0 ↦[S]{fullShare} f : sProp 𝕄)) slots_cover.symm

/-- Four of anything, one by one, in the order of the blocks c, c + 1, c + 2, c + 3. -/
theorem bigSep_rot {M : Type} [URA M] (c : Dev nD) (Φ : Fin 4 → sProp M) :
    bigSep Finset.univ Φ = iprop(Φ c ∗ Φ (rot c 1) ∗ Φ (rot c 2) ∗ Φ (rot c 3)) := by
  exact bigSep_univ_eq_bigSepL [c, rot c 1, rot c 2, rot c 3] (by revert c; decide) (by revert c; decide) Φ
/-- Four of a resource, listed. -/
theorem bigSep_four {M : Type} [URA M] (Φ : Fin 4 → sProp M) :
    bigSep Finset.univ Φ = iprop(Φ 0 ∗ Φ 1 ∗ Φ 2 ∗ Φ 3) :=
  bigSep_univ_eq_bigSepL [(0 : Fin 4), 1, 2, 3] (by decide) (by decide) Φ

end Split

end Cert.Proof.KernelIdeal

end
-- ==== Proof.Sched.lean ====
/-
  The protocol of the fused all-to-all and matrix-product kernel, as schedule, levels and ghost state.

  Each device c owns one barrier cell, three send cells and three receive cells.
  * Barrier cell of c: three units, duty j paid by the device d = c + 1 + j. With its unit d hands c the slot of d's xg
    that c's j-th send fills, at any contents, and the fact that the receive cell of d it credits is open.
  * Receive cell k of c: one transfer. It brings slot k + 1 of c's xg back, holding the rows sent to c.
  * Send cell j of c: one transfer. It brings back the row block of c's x that was sent.
  A device waits on its barrier owing only receive credits, which lie above it, and on its other cells owing nothing.
-/
module

public import proofs.«01_k».proof.Proof.Common

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the protocol's rounds, the local transfers' counters -/

/-- The pipeline's ghost state. -/
abbrev UP : Type := URounds (GSem nD τ sig) Unit
/-- The protocol's. -/
abbrev UT : Type := URounds (GSem nD τ sig) (Fin 3)
/-- Both, with the transfers' counters. -/
abbrev UU : Type := UP × (UT × Counters)

local notation "𝕄" => MT nD τ sig Unit (Elt F) ℕ UU ℕ

/-- Where the pipeline's ghost state lies. -/
def EP : Emb UP (MT nD τ sig Unit (Elt F) ℕ UU ℕ) :=
  (Emb.inl : Emb UP UU).trans (uEmb (nD := nD) (sig := sig) (Ix := Unit) (Val := Elt F) (Name := ℕ) (U := UU) (Lvl := ℕ)).toEmb
/-- The protocol's and the counters' half. -/
def EB : Emb (UT × Counters) (MT nD τ sig Unit (Elt F) ℕ UU ℕ) :=
  (Emb.inr : Emb (UT × Counters) UU).trans (uEmb (nD := nD) (sig := sig) (Ix := Unit) (Val := Elt F) (Name := ℕ) (U := UU) (Lvl := ℕ)).toEmb
/-- Where the protocol's lies. -/
def ER : Emb UT (MT nD τ sig Unit (Elt F) ℕ UU ℕ) := (Emb.inl : Emb UT (UT × Counters)).trans EB

/-- The pipeline's lies in the user's part. -/
instance EP_landsIn : (EP (F := F)).LandsIn (upEmb : UEmb _ 𝕄) := by unfold EP; infer_instance
/-- The protocol's lies in the user's part. -/
instance ER_landsIn : (ER (F := F)).LandsIn (upEmb : UEmb _ 𝕄) := by unfold ER EB; infer_instance

/-! ## Cells -/

/-- The barrier's semaphore. -/
def barS : Sem sig := ⟨0, by decide⟩
/-- The semaphore of the j-th send. -/
def sendS (j : Fin 3) : DmaSem sig := ⟨3 + j.val, by revert j; decide⟩
/-- The semaphore of the k-th slot received. -/
def recvS (k : Fin 3) : DmaSem sig := ⟨6 + k.val, by revert k; decide⟩

/-- The barrier cell of c. -/
abbrev barCell (c : Dev nD) : GSem nD τ sig := ((c : Thread nD τ), .reg barS)
/-- The cell of its j-th send. -/
abbrev sendCell (c : Dev nD) (j : Fin 3) : GSem nD τ sig := ((c : Thread nD τ), .dma (sendS j))
/-- The cell of the k-th slot it receives. -/
abbrev recvCell (c : Dev nD) (k : Fin 3) : GSem nD τ sig := ((c : Thread nD τ), .dma (recvS k))

/-- The units one row block's transfer brings. -/
abbrev N : ℕ := (slotM 0).view.dmaCredit
/-- A slot is not empty. -/
theorem N_pos : 0 < N := View.dmaCredit_pos _ (by decide)

/-- The device of which c is the j-th receiver sees c as its receiver at the mirrored place. -/
theorem rot_rev (c : Dev nD) (j : Fin 3) : rot (rot c (far j)) (far j.rev) = c := by revert c j; decide
/-- The semaphore a send credits is its slot's. -/
theorem succ_recvOf (j : Fin 3) : (recvOf j).succ = slotOf j := by revert j; decide

/-! ## The schedule -/

variable (X : Dev nD → (main_v5 : Ref sig .tc).ty.Contents (Elt F))

/-- Paid to c's barrier cell by the device that c's j-th send goes to. -/
def barPay (c : Dev nD) (j : Fin 3) : sProp 𝕄 :=
  iprop((∃ f, slotPts (rot c (far j)) (slotOf j) f) ∗ reached ER (recvCell (rot c (far j)) (recvOf j)) 0)
/-- Paid to c's k-th receive cell: slot k + 1, filled. -/
def recvPay (c : Dev nD) (k : Fin 3) : sProp 𝕄 := slotPts c k.succ (xg X c)
/-- Paid to c's j-th send cell: the row block that was sent. -/
def sendPay (c : Dev nD) (j : Fin 3) : sProp 𝕄 := rowPts c (rot c (far j)) (X c)

/-- The duties of a semaphore in round 0. -/
def dutiesOf (s : SemLoc sig) : Finset (Fin 3) :=
  if s = .reg barS then Finset.univ
  else if (∃ j, s = .dma (sendS j)) ∨ (∃ k, s = .dma (recvS k)) then {0} else ∅

/-- What a semaphore's duty pays device c. -/
def payOf (c : Dev nD) (s : SemLoc sig) (d : Fin 3) : sProp 𝕄 :=
  if s = .reg barS then barPay c d
  else if s = .dma (recvS 0) then recvPay X c 0 else if s = .dma (recvS 1) then recvPay X c 1
  else if s = .dma (recvS 2) then recvPay X c 2
  else if s = .dma (sendS 0) then sendPay X c 0 else if s = .dma (sendS 1) then sendPay X c 1
  else if s = .dma (sendS 2) then sendPay X c 2
  else iprop(emp)

/-- The schedule: what each cell's one round consists of. -/
def Rd : Rounds.Schedule (GSem nD τ sig) (Fin 3) 𝕄 where
  duties g r := if r = 0 ∧ g.1.2 = .tc then dutiesOf g.2 else ∅
  unitless _ := False
  amount g _ _ := if g.2 = .reg barS then 1 else N
  payload g _ d := payOf X g.1.1 g.2 d
  amount_pos g _ _ _ := by
    by_cases h : g.2 = .reg barS
    · rw [if_pos h]; exact Nat.one_pos
    · rw [if_neg h]; exact N_pos

/-- Payloads may be stored in a cell. -/
instance payOf_storable (c : Dev nD) (s : SemLoc sig) (d : Fin 3) : BI.Storable (upEmb : UEmb _ 𝕄) (payOf X c s d) := by
  unfold payOf barPay recvPay sendPay
  (repeat' split) <;> infer_instance
/-- Those of the schedule are. -/
instance Rd_payload_storable (g : GSem nD τ sig) (r : ℕ) (d : Fin 3) :
    BI.Storable (upEmb : UEmb _ 𝕄) ((Rd X).payload g r d) := payOf_storable X g.1.1 g.2 d

/-- A DMA semaphore is not the barrier. -/
theorem dma_ne_bar (s : DmaSem sig) : (SemLoc.dma s : SemLoc sig) ≠ .reg barS := fun h => by cases h

section Tables

variable (c : Dev nD)

/-- A barrier has three duties, one of each peer. -/
theorem duties_bar : (Rd X).duties (barCell c) 0 = Finset.univ := by
  dsimp only [Rd]; rw [if_pos ⟨rfl, rfl⟩]; exact if_pos rfl
/-- A send cell has one. -/
theorem duties_send (j : Fin 3) : (Rd X).duties (sendCell c j) 0 = {0} := by
  dsimp only [Rd]; rw [if_pos ⟨rfl, rfl⟩]; unfold dutiesOf; rw [if_neg (dma_ne_bar _)]; exact if_pos (Or.inl ⟨j, rfl⟩)
/-- So has a receive cell. -/
theorem duties_recv (k : Fin 3) : (Rd X).duties (recvCell c k) 0 = {0} := by
  dsimp only [Rd]; rw [if_pos ⟨rfl, rfl⟩]; unfold dutiesOf; rw [if_neg (dma_ne_bar _)]; exact if_pos (Or.inr ⟨k, rfl⟩)
/-- There is no second round. -/
theorem duties_later (g : GSem nD τ sig) : ∀ r, 1 ≤ r → (Rd X).duties g r = ∅ :=
  fun r hr => by dsimp only [Rd]; exact if_neg (fun h => by omega)

/-- A peer signals the barrier once. -/
theorem amount_bar (d : Fin 3) : (Rd X).amount (barCell c) 0 d = 1 := by dsimp only [Rd]; exact if_pos rfl
/-- A send credits its whole slot. -/
theorem amount_send (j d : Fin 3) : (Rd X).amount (sendCell c j) 0 d = N := by dsimp only [Rd]; exact if_neg (dma_ne_bar _)
/-- So does a receive. -/
theorem amount_recv (k d : Fin 3) : (Rd X).amount (recvCell c k) 0 d = N := by dsimp only [Rd]; exact if_neg (dma_ne_bar _)

/-- The barrier waits for three. -/
theorem expect_bar : (Rd X).expect (barCell c) 0 = 3 := by
  unfold Schedule.expect Schedule.amountOf; rw [duties_bar, Finset.sum_congr rfl fun d _ => amount_bar X c d]; rfl
/-- A send's wait is for its slot. -/
theorem expect_send (j : Fin 3) : (Rd X).expect (sendCell c j) 0 = N := by
  unfold Schedule.expect Schedule.amountOf; rw [duties_send, Finset.sum_singleton, amount_send]
/-- So is a receive's. -/
theorem expect_recv (k : Fin 3) : (Rd X).expect (recvCell c k) 0 = N := by
  unfold Schedule.expect Schedule.amountOf; rw [duties_recv, Finset.sum_singleton, amount_recv]

/-- What a barrier signal hands over. -/
theorem payload_bar (d : Fin 3) : (Rd X).payload (barCell c) 0 d = barPay c d := by dsimp only [Rd, payOf]; exact if_pos rfl
/-- What a receive hands over. -/
theorem payload_recv (k d : Fin 3) : (Rd X).payload (recvCell c k) 0 d = recvPay X c k := by
  dsimp only [Rd, payOf]; rw [if_neg (dma_ne_bar _)]
  match k with
  | 0 => exact if_pos rfl
  | 1 => rw [if_neg (by decide)]; exact if_pos rfl
  | 2 => rw [if_neg (by decide), if_neg (by decide)]; exact if_pos rfl
/-- What a send hands back. -/
theorem payload_send (j d : Fin 3) : (Rd X).payload (sendCell c j) 0 d = sendPay X c j := by
  dsimp only [Rd, payOf]; rw [if_neg (dma_ne_bar _)]
  match j with
  | 0 => rw [if_neg (by decide), if_neg (by decide), if_neg (by decide)]; exact if_pos rfl
  | 1 => rw [if_neg (by decide), if_neg (by decide), if_neg (by decide), if_neg (by decide)]; exact if_pos rfl
  | 2 => rw [if_neg (by decide), if_neg (by decide), if_neg (by decide), if_neg (by decide), if_neg (by decide)]; exact if_pos rfl

/-- Three of anything, one by one. -/
theorem bigSep_three {M : Type} [URA M] (Φ : Fin 3 → sProp M) : bigSep Finset.univ Φ = iprop(Φ 0 ∗ Φ 1 ∗ Φ 2) :=
  bigSep_univ_eq_bigSepL [(0 : Fin 3), 1, 2] (by decide) (by decide) Φ

/-- All that the barrier hands over. -/
theorem rest_bar : bigSep ((Rd X).duties (barCell c) 0 \ ∅) (fun d => (Rd X).payload (barCell c) 0 d)
    = iprop(barPay c 0 ∗ barPay c 1 ∗ barPay c 2) := by
  rw [Finset.sdiff_empty, duties_bar, bigSep_three, payload_bar, payload_bar, payload_bar]
/-- All that a send hands back. -/
theorem rest_send (j : Fin 3) : bigSep ((Rd X).duties (sendCell c j) 0 \ ∅) (fun d => (Rd X).payload (sendCell c j) 0 d) = sendPay X c j := by
  rw [Finset.sdiff_empty, duties_send, bigSep_singleton, payload_send]
/-- All that a receive hands over. -/
theorem rest_recv (k : Fin 3) : bigSep ((Rd X).duties (recvCell c k) 0 \ ∅) (fun d => (Rd X).payload (recvCell c k) 0 d) = recvPay X c k := by
  rw [Finset.sdiff_empty, duties_recv, bigSep_singleton, payload_recv]

/-- What device c pays the barrier of its j-th receiver. -/
theorem barPay_rev (j : Fin 3) : barPay (F := F) (rot c (far j)) j.rev
    = iprop((∃ f, slotPts c (slotOf j.rev) f) ∗ reached ER (recvCell c (recvOf j.rev)) 0) := by
  unfold barPay; rw [rot_rev]

end Tables

/-! ## What a device owes, and the levels -/

/-- The receive credit of device c's j-th receiver. -/
abbrev owesRecv (c : Dev nD) (j : Fin 3) : CellTallies nD τ sig Unit := tallyAt (recvCell (rot c (far j)) (recvOf j)) () N
/-- The barrier unit of device c's j-th receiver. -/
abbrev owesBar (c : Dev nD) (j : Fin 3) : CellTallies nD τ sig Unit := tallyAt (barCell (rot c (far j))) () 1

/-- The three receive credits, the first sent last in the sum. -/
def Orecv (c : Dev nD) : CellTallies nD τ sig Unit := owesRecv c 2 + owesRecv c 1 + owesRecv c 0
/-- What device c owes at launch. -/
def O₀ (c : Dev nD) : CellTallies nD τ sig Unit := Orecv c + owesBar c 2 + owesBar c 1 + owesBar c 0

/-- Every cell of a TensorCore has one level. -/
def L (g : GSem nD τ sig) : Finset Unit := if g.1.2 = .tc then {()} else ∅
/-- Barrier cells at 1, receive cells at 2, the rest at 0. -/
def lv (g : GSem nD τ sig) (_ : Unit) : ℕ := if g.2 = .reg barS then 1 else if ∃ k, g.2 = .dma (recvS k) then 2 else 0

/-- The others have none. -/
theorem L_of_ne (g : GSem nD τ sig) (h : g.1.2 ≠ .tc) : L g = ∅ := if_neg h
/-- The level of a TensorCore's cell. -/
theorem L_tc (c : Dev nD) (sm : SemLoc sig) : L ((c : Thread nD τ), sm) = {()} := if_pos rfl
/-- The barrier is waited for first. -/
theorem lv_bar (c : Dev nD) : lv (barCell c) () = 1 := if_pos rfl
/-- The receives after it. -/
theorem lv_recv (c : Dev nD) (k : Fin 3) : lv (recvCell c k) () = 2 := (if_neg (dma_ne_bar _)).trans (if_pos ⟨k, rfl⟩)

/-- A tally at one cell is positive there alone. -/
theorem tally_pos {g g' : GSem nD τ sig} {u u' : Unit} {n : ℕ} (h : 0 < tallyAt g u n g' u') : g' = g := by
  rw [tallyAt_apply] at h
  by_cases h' : g' = g ∧ u' = u
  · exact h'.1
  · rw [if_neg h'] at h; exact absurd h (Nat.lt_irrefl 0)

/-- What sends owe is owed to receive cells. -/
theorem Orecv_pos {c : Dev nD} {g : GSem nD τ sig} {u : Unit} (h : 0 < Orecv c g u) : ∃ j, g = recvCell (rot c (far j)) (recvOf j) := by
  by_contra hn
  have h0 : ∀ j, owesRecv c j g u = 0 := fun j => Nat.eq_zero_of_not_pos fun hp => hn ⟨j, tally_pos hp⟩
  have : Orecv c g u = owesRecv c 2 g u + owesRecv c 1 g u + owesRecv c 0 g u := rfl
  rw [h0, h0, h0] at this
  omega
/-- What a device owes at first is owed to receive cells or barriers. -/
theorem O₀_pos {c : Dev nD} {g : GSem nD τ sig} {u : Unit} (h : 0 < O₀ c g u) :
    (∃ j, g = recvCell (rot c (far j)) (recvOf j)) ∨ (∃ j, g = barCell (rot c (far j))) := by
  by_contra hn
  have h0 : ∀ j, owesBar c j g u = 0 := fun j => Nat.eq_zero_of_not_pos fun hp => hn (Or.inr ⟨j, tally_pos hp⟩)
  have h1 : Orecv c g u = 0 := Nat.eq_zero_of_not_pos fun hp => hn (Or.inl (Orecv_pos hp))
  have : O₀ c g u = Orecv c g u + owesBar c 2 g u + owesBar c 1 g u + owesBar c 0 g u := rfl
  rw [h0, h0, h0, h1] at this
  omega

/-- The barrier may be waited for while the sends are owed. -/
theorem mayWait_bar (c : Dev nD) : (levAts L lv : sProp 𝕄) ⊢ MayWait (c : Thread nD τ) (.reg barS) () (Orecv c) :=
  MayOwe.of_cut (L := L) (lev := lv) 1 (fun p hp => by rw [Finset.mem_singleton.mp hp, L_tc]; exact Finset.mem_singleton_self _)
    (fun g u hg => by obtain ⟨j, rfl⟩ := Orecv_pos hg; rw [L_tc]; exact Finset.mem_singleton_self _)
    (fun p hp => by rw [Finset.mem_singleton.mp hp]; exact Nat.le_of_eq (lv_bar c))
    (fun g u hg => by obtain ⟨j, rfl⟩ := Orecv_pos hg; exact (lv_recv (rot c (far j)) (recvOf j)).symm ▸ (by decide : 1 < 2))

/-- A wait at level 0 may be made owing all there is to owe. -/
theorem mayWait_low (c : Dev nD) (sm : SemLoc sig) (h : lv ((c : Thread nD τ), sm) () = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by
      rcases O₀_pos hg with ⟨j, rfl⟩ | ⟨j, rfl⟩ <;> (rw [L_tc]; exact Finset.mem_singleton_self _))
    (fun p hp => by rw [Finset.mem_singleton.mp hp]; exact Nat.le_of_eq h)
    (fun g u hg => by
      rcases O₀_pos hg with ⟨j, rfl⟩ | ⟨j, rfl⟩
      · exact (lv_recv (rot c (far j)) (recvOf j)).symm ▸ (by decide : 0 < 2)
      · exact (lv_bar (rot c (far j))).symm ▸ (by decide : 0 < 1))

/-! ## The ghost state -/

/-- Every cell of the protocol, by device and place: the barrier cell, the send cells, the receive cells. -/
def cellAt (p : Dev nD × Fin 7) : GSem nD τ sig :=
  match p.2 with
  | 0 => barCell p.1 | 1 => sendCell p.1 0 | 2 => sendCell p.1 1 | 3 => sendCell p.1 2
  | 4 => recvCell p.1 0 | 5 => recvCell p.1 1 | 6 => recvCell p.1 2

/-- The invariants of all cells, at the names K; and that round 0 of every barrier cell is reached. -/
def records (K : GSem nD τ sig → ℕ) : sProp 𝕄 :=
  iprop(bigSep Finset.univ (fun p => cellInv ER (Rd X) (K (cellAt p)) (cellAt p)) ∗ bigSep Finset.univ fun c : Dev nD => reached ER (barCell c) 0)

/-- The records may be shared. -/
instance records_persistent (K : GSem nD τ sig → ℕ) : BI.Persistent (records X K) := by unfold records; infer_instance

/-- A cell's invariant, of the records. -/
theorem inv_at (K : GSem nD τ sig → ℕ) (p : Dev nD × Fin 7) : records X K ⊢ cellInv ER (Rd X) (K (cellAt p)) (cellAt p) := by
  unfold records; exact sep_elim_left.trans (bigSep_elim (Finset.mem_univ p))
/-- That of a barrier. -/
theorem inv_bar (K : GSem nD τ sig → ℕ) (c : Dev nD) : records X K ⊢ cellInv ER (Rd X) (K (barCell c)) (barCell c) := inv_at X K (c, 0)
/-- That of a send cell. -/
theorem inv_send (K : GSem nD τ sig → ℕ) (c : Dev nD) (j : Fin 3) :
    records X K ⊢ cellInv ER (Rd X) (K (sendCell c j)) (sendCell c j) :=
  match j with
  | 0 => inv_at X K (c, 1) | 1 => inv_at X K (c, 2) | 2 => inv_at X K (c, 3)
/-- That of a receive cell. -/
theorem inv_recv (K : GSem nD τ sig → ℕ) (c : Dev nD) (k : Fin 3) :
    records X K ⊢ cellInv ER (Rd X) (K (recvCell c k)) (recvCell c k) :=
  match k with
  | 0 => inv_at X K (c, 4) | 1 => inv_at X K (c, 5) | 2 => inv_at X K (c, 6)
/-- A barrier's round has begun. -/
theorem reached_bar (K : GSem nD τ sig → ℕ) (c : Dev nD) : records X K ⊢ reached ER (barCell c) 0 := by
  unfold records; exact sep_elim_right.trans (bigSep_elim (Finset.mem_univ c))

/-- The duty tokens device c pays with at its j-th receiver. -/
def toks (c : Dev nD) (j : Fin 3) : sProp 𝕄 :=
  iprop(dutyTok ER (barCell (rot c (far j))) 0 j.rev ∗ dutyTok ER (sendCell c j) 0 0
    ∗ dutyTok ER (recvCell (rot c (far j)) (recvOf j)) 0 0)

/-- What device c carries from launch to the kernel: the records, its position on its barrier cell, its tokens, the right to
    open its send and receive cells, and the credit of its barrier and receive cells. -/
def ghost (K : GSem nD τ sig → ℕ) (c : Dev nD) : sProp 𝕄 :=
  iprop(records X K ∗ atPos ER (barCell c) 0 ∅ 0 ∗ bigSep Finset.univ (toks c)
    ∗ bigSep Finset.univ (fun j => openTok ER (sendCell c j)) ∗ bigSep Finset.univ (fun k => openTok ER (recvCell c k))
    ∗ cred (tallyAt (barCell c) () 3) ∗ bigSep Finset.univ (fun k => cred (tallyAt (recvCell c k) () N)))

/-- The same with the send and receive cells open: what the first grid point begins with. -/
def opened (K : GSem nD τ sig → ℕ) (c : Dev nD) : sProp 𝕄 :=
  iprop(records X K ∗ atPos ER (barCell c) 0 ∅ 0 ∗ bigSep Finset.univ (toks c)
    ∗ bigSep Finset.univ (fun j => iprop(atPos ER (sendCell c j) 0 ∅ 0 ∗ reached ER (sendCell c j) 0))
    ∗ bigSep Finset.univ (fun k => iprop(atPos ER (recvCell c k) 0 ∅ 0 ∗ reached ER (recvCell c k) 0))
    ∗ cred (tallyAt (barCell c) () 3) ∗ bigSep Finset.univ (fun k => cred (tallyAt (recvCell c k) () N)))

end Cert.Proof.KernelIdeal

end
-- ==== Proof.Body.lean ====
/-
  The kernel's body at one grid point.
-/
module

public import proofs.«01_k».proof.Proof.Sched

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The printed conditions -/

/-- The condition of the wait for slot s. -/
abbrev cWait (i : grid0.Coords) (s : BitVec 32) : Prop :=
  Scalar.cmpi .ne (Scalar.extui (Scalar.andi (Scalar.cmpi .eq (BitVec.ofNat 32 (i 0).val) s)
    (Scalar.cmpi .eq (BitVec.ofNat 32 (i 1).val) 0#32)) : BitVec 32) 0#32 = 1#1
/-- The condition of the product of step s. -/
abbrev cStep (i : grid0.Coords) (s : BitVec 32) : Prop :=
  Scalar.cmpi .ne (Scalar.extui (Scalar.cmpi .eq (BitVec.ofNat 32 (i 0).val) s) : BitVec 32) 0#32 = 1#1
/-- The condition of the last point. -/
abbrev cLast (i : grid0.Coords) : Prop :=
  Scalar.cmpi .ne (Scalar.extui (Scalar.andi (Scalar.cmpi .eq (BitVec.ofNat 32 (i 0).val) 3#32)
    (Scalar.cmpi .eq (BitVec.ofNat 32 (i 1).val) 15#32)) : BitVec 32) 0#32 = 1#1

/-- When the first point's branch is taken. -/
theorem cond1_iff : ∀ i : grid0.Coords, Iff (k0_cond1 i = 1#1) ((i 0).val = 0 ∧ (i 1).val = 0) := by decide +kernel
/-- When a point fetches its block of the result. -/
theorem cond5_iff : ∀ i : grid0.Coords, Iff (k0_cond5 i = 1#1) ((i 0).val ≠ 0) := by decide +kernel
/-- When a point waits for slot s. -/
theorem cWait_iff : ∀ (i : grid0.Coords) (s : Fin 4), Iff (cWait i (BitVec.ofNat 32 s.val)) ((i 0).val = s.val ∧ (i 1).val = 0) := by decide +kernel
/-- When a point works on slot s. -/
theorem cStep_iff : ∀ (i : grid0.Coords) (s : Fin 4), Iff (cStep i (BitVec.ofNat 32 s.val)) ((i 0).val = s.val) := by decide +kernel
/-- When the last point's branch is taken. -/
theorem cLast_iff : ∀ i : grid0.Coords, Iff (cLast i) ((i 0).val = 3 ∧ (i 1).val = 15) := by decide +kernel

/-! ## The pieces of a step -/

/-- Block column of the result at a grid point. -/
abbrev yR (i : grid0.Coords) : Memref sig .tc .hbm S2048x256 .f32 :=
  yM.slice (Rect.unit (s := S2048x4096) (k0_off5 i) S2048x256.size (k0_off5_inb i)) (fun _ => rfl)
/-- Slot s as a box of xg. -/
abbrev slotR (s : Fin 4) : Rect S4x2048x2048 :=
  Rect.unit (s := S4x2048x2048) ![s.val, 0, 0] S1x2048x2048.size (slotInb s)
/-- A block buffer's one box. -/
abbrev blkR : Rect S2048x256 :=
  Rect.unit (s := S2048x256) ![0, 0] S2048x256.size inb_S2048x256_S2048x256_0_0

/-- A memref's elements held in full, at contents f. -/
abbrev bufPts (c : Dev nD) {sp : Space} {s : Shape} {e : EltTy} (m : Memref sig .tc sp s e) (f : m.view.ref.ty.Contents (Elt F)) : sProp 𝕄 :=
  m.view.loc (c : Thread nD τ) ↦[m.view.set]{fullShare} f

/-- Reading the box of slot s touches slot s alone. -/
theorem slot_sub (s : Fin 4) : (gM.access (slotR s) : View sig .tc _ _ _).set ⊆ (slotM s).view.set := by
  rw [Memref.set_view_squeeze]

variable (X : Dev nD → (main_v5 : Ref sig .tc).ty.Contents (Elt F))

/-! ## One step of the product -/

/-- The kernel's body at grid point i, on w's staging buffer arg4. -/
abbrev bodyAt (i : grid0.Coords) (arg4 : Memref sig .tc .vmem S2048x256 .f32) (harg4 : arg4.IsWhole) :
    Prog (TpuEff nD τ sig (Elt F) Λ₀ .tc) PUnit :=
  cc0__fused_body i (Memref.whole main_v8) (Memref.isWhole_whole _) xM (Memref.isWhole_whole _) arg4 harg4 yM (Memref.isWhole_whole _)
    gM (Memref.isWhole_whole _) iM (Memref.isWhole_whole _) oM (Memref.isWhole_whole _) cc0_scratch3 cc0_scratch4 cc0_scratch5 cc0_scratch6
/-- Its first part: the exchange, the block of the result read back, the block of w loaded. -/
abbrev part4At (i : grid0.Coords) (arg4 : Memref sig .tc .vmem S2048x256 .f32) (harg4 : arg4.IsWhole) :
    Prog (TpuEff nD τ sig (Elt F) Λ₀ .tc) (Σ' (_ : BitVec 32) (_ : BitVec 32) (_ : FVec F S2048x256 .bf16), BitVec 1) :=
  k0_part4 i (Memref.whole main_v8) (Memref.isWhole_whole _) xM (Memref.isWhole_whole _) arg4 harg4 yM (Memref.isWhole_whole _)
    gM (Memref.isWhole_whole _) iM (Memref.isWhole_whole _) oM (Memref.isWhole_whole _) cc0_scratch3 cc0_scratch4 cc0_scratch5 cc0_scratch6

/-- What the first part returns, of the block of w it loaded. -/
abbrev ret4 (i : grid0.Coords) (wv : Vec F S2048x256 .f32) : Σ' (_ : BitVec 32) (_ : BitVec 32) (_ : FVec F S2048x256 .bf16), BitVec 1 :=
  ⟨BitVec.ofNat 32 (i 0).val, BitVec.ofNat 32 (i 1).val, k0_pay5 wv,
    Scalar.cmpi .ne (Scalar.extui (Scalar.cmpi .eq (BitVec.ofNat 32 (i 0).val) 0#32) : BitVec 32) 0#32⟩

/-- The block of w, loaded from its staging buffer. -/
abbrev wvOf (arg4 : Memref sig .tc .vmem S2048x256 .f32) (fw : arg4.view.ref.ty.Contents (Elt F)) : Vec F S2048x256 .f32 :=
  arg4.view.readAt (Elt F) blkR.toLoadRect fw

/-- What step s leaves of a block: the product of slot s of the filled xg and the block of w, added to what the block held
    before except at step 0, and with its negative elements at zero at step 3. -/
def outB (c : Dev nD) (s : Fin 4) (wv yin : Vec F S2048x256 .f32) : Vec F S2048x256 .f32 :=
  match s with
  | 0 => k0_pay1 (k0_pay5 wv) (gM.view.readAt (Elt F) (slotR 0).toLoadRect (xg X c))
  | 1 => k0_pay2 (k0_pay5 wv) (gM.view.readAt (Elt F) (slotR 1).toLoadRect (xg X c)) yin
  | 2 => k0_pay3 (k0_pay5 wv) (gM.view.readAt (Elt F) (slotR 2).toLoadRect (xg X c)) yin
  | 3 => k0_pay4 (k0_pay5 wv) (gM.view.readAt (Elt F) (slotR 3).toLoadRect (xg X c)) yin

/-- The result's contents after grid point i, of its contents before. -/
def Ynext (c : Dev nD) (i : grid0.Coords) (s : Fin 4) (wv : Vec F S2048x256 .f32) (Y : (main_v9 : Ref sig .tc).ty.Contents (Elt F)) :
    (main_v9 : Ref sig .tc).ty.Contents (Elt F) :=
  (yR i).view.write (Elt F) Y (outB X c s wv ((yR i).view.read (Elt F) Y)) Finset.univ

/-- The block buffers are read from their corner. -/
theorem hz : (![0, 0] : Fin 2 → Nat) = fun _ => 0 := funext fun a => by fin_cases a <;> rfl

/-- A block buffer stored in one piece reads as what was stored. -/
theorem read_oM (f : (cc0_scratch2 : Ref sig .tc).ty.Contents (Elt F)) (w : blkR.shape.Idx → Elt F .f32) :
    oM.view.read (Elt F) (oM.view.writes (Elt F) f [⟨blkR, w⟩]) = w := by
  rw [View.writes_singleton, View.read_whole]
  exact Memref.write_access_unit_zero_univ (Elt F) cc0_scratch2 hz inb_S2048x256_S2048x256_0_0 f w

/-- What the first part hands to the products. -/
def post4 (c : Dev nD) (i : grid0.Coords) (s : Fin 4) (arg4 : Memref sig .tc .vmem S2048x256 .f32)
    (fw : arg4.view.ref.ty.Contents (Elt F)) (Y : (main_v9 : Ref sig .tc).ty.Contents (Elt F)) : sProp 𝕄 :=
  iprop(slotPts c s (xg X c) ∗ bufPts c arg4 fw ∗ bufPts c yM Y
    ∗ (∃ fi, ⌜s ≠ 0 → iM.view.readAt (Elt F) blkR.toLoadRect fi = (yR i).view.read (Elt F) Y⌝ ∗ bufPts c iM fi)
    ∗ (∃ fo, bufPts c oM fo) ∗ semVal ((c : Thread nD τ), SemLoc.dma cc0_scratch6.sem) 0 ∗ ∃ W, owes (c : Thread nD τ) 0 W)

/-- What the products leave. -/
def postStep (c : Dev nD) (s : Fin 4) (arg4 : Memref sig .tc .vmem S2048x256 .f32)
    (fw : arg4.view.ref.ty.Contents (Elt F)) (Y : (main_v9 : Ref sig .tc).ty.Contents (Elt F)) : sProp 𝕄 :=
  iprop(slotPts c s (xg X c) ∗ bufPts c arg4 fw ∗ bufPts c yM Y ∗ (∃ fi, bufPts c iM fi)
    ∗ (∃ fo, bufPts c oM fo) ∗ semVal ((c : Thread nD τ), SemLoc.dma cc0_scratch6.sem) 0 ∗ ∃ W, owes (c : Thread nD τ) 0 W)

/-- The step's result, of what the write of the block leaves. -/
theorem close_step (c : Dev nD) (i : grid0.Coords) (s : Fin 4) (arg4 : Memref sig .tc .vmem S2048x256 .f32)
    (fw : arg4.view.ref.ty.Contents (Elt F)) (Y : (main_v9 : Ref sig .tc).ty.Contents (Elt F)) (R : sProp 𝕄) (w : Vec F S2048x256 .f32)
    (hw : w = outB X c s (wvOf arg4 fw) ((yR i).view.read (Elt F) Y)) :
    iprop(slotPts c s (xg X c) ∗ bufPts c arg4 fw ∗ bufPts c yM ((yR i).view.write (Elt F) Y w Finset.univ)
      ∗ (∃ fi, bufPts c iM fi) ∗ (∃ fo, bufPts c oM fo)
      ∗ semVal ((c : Thread nD τ), SemLoc.dma cc0_scratch6.sem) 0 ∗ (∃ W, owes (c : Thread nD τ) 0 W) ∗ R)
    ⊢ iprop(postStep X c s arg4 fw (Ynext X c i s (wvOf arg4 fw) Y) ∗ R) := by
  subst hw
  unfold postStep Ynext
  iintro ⟨HG, Hw, HY, Hi, HO, Hs, Howes, HR⟩
  isplitr [HR]
  · isplitl [HG]; · iexact HG
    isplitl [Hw]; · iexact Hw
    isplitl [HY]; · iexact HY
    isplitl [Hi]; · iexact Hi
    isplitl [HO]; · iexact HO
    isplitl [Hs]; · iexact Hs
    iexact Howes
  iexact HR

/-- The four slots, one by one. -/
theorem four : ∀ s : Fin 4, s = 0 ∨ s = 1 ∨ s = 2 ∨ s = 3 := by decide

/-- The products at any but the last point, after the first part. -/
theorem wp_of_part4 (c : Dev nD) (i : grid0.Coords) (s : Fin 4) (hs : (i 0).val = s.val) (hl : ¬ cLast i)
    (arg4 : Memref sig .tc .vmem S2048x256 .f32) (harg4 : arg4.IsWhole) (fw : arg4.view.ref.ty.Contents (Elt F))
    (Y : (main_v9 : Ref sig .tc).ty.Contents (Elt F)) (P R : sProp 𝕄)
    (h4 : P ⊢ wp frame (wpE (defs₀ (F := F)) Variants.none (c : Thread nD τ) none) Set.univ (part4At i arg4 harg4)
      (fun v => iprop(⌜v = ret4 i (wvOf arg4 fw)⌝ ∗ post4 X c i s arg4 fw Y ∗ R))) :
    P ⊢ wp frame (wpE (defs₀ (F := F)) Variants.none (c : Thread nD τ) none) Set.univ (bodyAt i arg4 harg4)
      (fun _ => iprop(postStep X c s arg4 fw (Ynext X c i s (wvOf arg4 fw) Y) ∗ R)) := by
  have c0 : ∀ k : Fin 4, Iff (cStep i (BitVec.ofNat 32 k.val)) (s.val = k.val) := fun k => by rw [cStep_iff, hs]
  unfold bodyAt
  rw [cc0__fused_body_eq_skeleton]
  unfold cc0__fused_body_skel
  rw [wp_bind]
  refine h4.trans (wp_mono _ _ _ fun v => ?_)
  unfold post4
  iintro ⟨%hv, ⟨HG, Hw, HY, ⟨%fi, %hfi, Hi⟩, ⟨%fo, HO⟩, Hs, ⟨%W, Howes⟩⟩, HR⟩
  subst hv
  have h4 : s = 0 ∨ s = 1 ∨ s = 2 ∨ s = 3 := four s
  have hsub := slot_sub s
  rcases h4 with rfl | rfl | rfl | rfl
  · have c6 : cStep i 0#32 := (c0 0).2 rfl
    have c7 : ¬ cStep i 1#32 := fun h => absurd ((c0 1).1 h) (by decide)
    have c8 : ¬ cStep i 2#32 := fun h => absurd ((c0 2).1 h) (by decide)
    have c9 : ¬ cStep i 3#32 := fun h => absurd ((c0 3).1 h) (by decide)
    sl_exec
    sl_step
    iapply (close_step X c i 0 arg4 fw Y R (oM.view.read (Elt F) (oM.view.writes (Elt F) fo [⟨blkR, k0_pay1 (k0_pay5 (wvOf arg4 fw)) (gM.view.readAt (Elt F) (slotR 0).toLoadRect (xg X c))⟩]))
      (read_oM fo _))
    isplitl [HG]; · iexact HG
    isplitl [Hw]; · iexact Hw
    isplitl [HY]; · iexact HY
    isplitl [Hi]; · iexists _; iexact Hi
    isplitl [HO]; · iexists _; iexact HO
    isplitl [Hs]; · iexact Hs
    isplitl [Howes]; · iexists _; iexact Howes
    iexact HR
  · have c6 : ¬ cStep i 0#32 := fun h => absurd ((c0 0).1 h) (by decide)
    have c7 : cStep i 1#32 := (c0 1).2 rfl
    have c8 : ¬ cStep i 2#32 := fun h => absurd ((c0 2).1 h) (by decide)
    have c9 : ¬ cStep i 3#32 := fun h => absurd ((c0 3).1 h) (by decide)
    sl_exec
    sl_step
    iapply (close_step X c i 1 arg4 fw Y R (oM.view.read (Elt F) (oM.view.writes (Elt F) fo [⟨blkR, k0_pay2 (k0_pay5 (wvOf arg4 fw)) (gM.view.readAt (Elt F) (slotR 1).toLoadRect (xg X c)) ((yR i).view.read (Elt F) Y)⟩]))
      (read_oM fo _))
    isplitl [HG]; · iexact HG
    isplitl [Hw]; · iexact Hw
    isplitl [HY]; · iexact HY
    isplitl [Hi]; · iexists _; iexact Hi
    isplitl [HO]; · iexists _; iexact HO
    isplitl [Hs]; · iexact Hs
    isplitl [Howes]; · iexists _; iexact Howes
    iexact HR
  · have c6 : ¬ cStep i 0#32 := fun h => absurd ((c0 0).1 h) (by decide)
    have c7 : ¬ cStep i 1#32 := fun h => absurd ((c0 1).1 h) (by decide)
    have c8 : cStep i 2#32 := (c0 2).2 rfl
    have c9 : ¬ cStep i 3#32 := fun h => absurd ((c0 3).1 h) (by decide)
    sl_exec
    sl_step
    iapply (close_step X c i 2 arg4 fw Y R (oM.view.read (Elt F) (oM.view.writes (Elt F) fo [⟨blkR, k0_pay3 (k0_pay5 (wvOf arg4 fw)) (gM.view.readAt (Elt F) (slotR 2).toLoadRect (xg X c)) ((yR i).view.read (Elt F) Y)⟩]))
      (read_oM fo _))
    isplitl [HG]; · iexact HG
    isplitl [Hw]; · iexact Hw
    isplitl [HY]; · iexact HY
    isplitl [Hi]; · iexists _; iexact Hi
    isplitl [HO]; · iexists _; iexact HO
    isplitl [Hs]; · iexact Hs
    isplitl [Howes]; · iexists _; iexact Howes
    iexact HR
  · have c6 : ¬ cStep i 0#32 := fun h => absurd ((c0 0).1 h) (by decide)
    have c7 : ¬ cStep i 1#32 := fun h => absurd ((c0 1).1 h) (by decide)
    have c8 : ¬ cStep i 2#32 := fun h => absurd ((c0 2).1 h) (by decide)
    have c9 : cStep i 3#32 := (c0 3).2 rfl
    sl_exec
    sl_step
    iapply (close_step X c i 3 arg4 fw Y R (oM.view.read (Elt F) (oM.view.writes (Elt F) fo [⟨blkR, k0_pay4 (k0_pay5 (wvOf arg4 fw)) (gM.view.readAt (Elt F) (slotR 3).toLoadRect (xg X c)) ((yR i).view.read (Elt F) Y)⟩]))
      (read_oM fo _))
    isplitl [HG]; · iexact HG
    isplitl [Hw]; · iexact Hw
    isplitl [HY]; · iexact HY
    isplitl [Hi]; · iexists _; iexact Hi
    isplitl [HO]; · iexists _; iexact HO
    isplitl [Hs]; · iexact Hs
    isplitl [Howes]; · iexists _; iexact Howes
    iexact HR

end Cert.Proof.KernelIdeal

end
-- ==== Proof.Part4.lean ====
/-
  The first part of the body at every grid point but the first: the wait for the slot, the block of the result read back, the
  block of w loaded.
-/
module

public import proofs.«01_k».proof.Proof.Body

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (main_v5 : Ref sig .tc).ty.Contents (Elt F))

/-- What the first part needs besides the slot. -/
def pre4 (c : Dev nD) (arg4 : Memref sig .tc .vmem S2048x256 .f32) (fw : arg4.view.ref.ty.Contents (Elt F))
    (Y : (main_v9 : Ref sig .tc).ty.Contents (Elt F)) : sProp 𝕄 :=
  iprop(bufPts c arg4 fw ∗ bufPts c yM Y ∗ (∃ fi, bufPts c iM fi)
    ∗ (∃ fo, bufPts c oM fo) ∗ semVal ((c : Thread nD τ), SemLoc.dma cc0_scratch6.sem) 0 ∗ ∃ W, owes (c : Thread nD τ) 0 W)

/-- The staging block reads back what was copied into it. -/
theorem read_iM (f : (cc0_scratch1 : Ref sig .tc).ty.Contents (Elt F)) (w : S2048x256.Idx → Elt F .f32) :
    iM.view.readAt (Elt F) blkR.toLoadRect (iM.view.writes (Elt F) f [⟨Rect.whole S2048x256, w⟩]) = w := by
  refine (Memref.readAt_unit_zero (Elt F) cc0_scratch1 hz inb_S2048x256_S2048x256_0_0 _).trans (funext fun x => ?_)
  have h := View.read_writes_cons_emb (Val := Elt F) iM.view f (Rect.whole S2048x256) w [] x
  rw [View.read_whole, Rect.emb_whole_apply] at h
  exact h

/-- A point that waits for nothing. -/
theorem part4_plain (c : Dev nD) (i : grid0.Coords) (s : Fin 4) (hs : (i 0).val = s.val) (hj : (i 1).val ≠ 0)
    (arg4 : Memref sig .tc .vmem S2048x256 .f32) (harg4 : arg4.IsWhole) (fw : arg4.view.ref.ty.Contents (Elt F))
    (Y : (main_v9 : Ref sig .tc).ty.Contents (Elt F)) (R : sProp 𝕄) :
    iprop(slotPts c s (xg X c) ∗ pre4 c arg4 fw Y ∗ R)
      ⊢ wp frame (wpE (defs₀ (F := F)) Variants.none (c : Thread nD τ) none) Set.univ (part4At i arg4 harg4)
        (fun v => iprop(⌜v = ret4 i (wvOf arg4 fw)⌝ ∗ post4 X c i s arg4 fw Y ∗ R)) := by
  have c1 : ¬ k0_cond1 i = 1#1 := fun h => hj ((cond1_iff i).1 h).2
  have c2 : ¬ cWait i 1#32 := fun h => hj ((cWait_iff i 1).1 h).2
  have c3 : ¬ cWait i 2#32 := fun h => hj ((cWait_iff i 2).1 h).2
  have c4 : ¬ cWait i 3#32 := fun h => hj ((cWait_iff i 3).1 h).2
  unfold part4At pre4 post4
  rw [k0_part4_eq_skeleton]
  unfold k0_part4_skel
  iintro ⟨HG, ⟨Hw, HY, ⟨%fi, Hi⟩, ⟨%fo, HO⟩, Hs, ⟨%W, Howes⟩⟩, HR⟩
  by_cases h0 : s = 0
  · have c5 : ¬ k0_cond5 i = 1#1 := fun h => (cond5_iff i).1 h (hs.trans (congrArg Fin.val h0))
    sl_exec
    sl_step
    isplitr; · ipureintro; rfl
    isplitr [HR]
    · isplitl [HG]; · iexact HG
      isplitl [Hw]; · iexact Hw
      isplitl [HY]; · iexact HY
      isplitl [Hi]
      · iexists fi; isplitr; · ipureintro; exact fun h => absurd h0 h
        iexact Hi
      isplitl [HO]; · iexists _; iexact HO
      isplitl [Hs]; · iexact Hs
      iexists _; iexact Howes
    iexact HR
  · have c5 : k0_cond5 i = 1#1 := (cond5_iff i).2 (fun h => h0 (Fin.ext (hs.symm.trans h)))
    sl_exec
    sl_step
    isplitr; · ipureintro; rfl
    isplitr [HR]
    · isplitl [HG]; · iexact HG
      isplitl [Hw]; · iexact Hw
      isplitl [HY]; · iexact HY
      isplitl [Hi]
      · iexists (iM.view.writes (Elt F) fi [⟨Rect.whole S2048x256, (yR i).view.read (Elt F) Y⟩])
        isplitr; · ipureintro; exact fun _ => read_iM fi _
        iexact Hi
      isplitl [HO]; · iexists _; iexact HO
      isplitl [Hs]; · iexact Hs
      iexists _; iexact Howes
    iexact HR

/-- The three receive slots, one by one. -/
theorem three : ∀ k : Fin 3, k = 0 ∨ k = 1 ∨ k = 2 := by decide

/-- A point that waits for its slot, the k-th receive cell's. -/
theorem part4_wait (K : GSem nD τ sig → ℕ) (c : Dev nD) (i : grid0.Coords) (k : Fin 3) (hs : (i 0).val = k.succ.val) (hj : (i 1).val = 0)
    (arg4 : Memref sig .tc .vmem S2048x256 .f32) (harg4 : arg4.IsWhole) (fw : arg4.view.ref.ty.Contents (Elt F))
    (Y : (main_v9 : Ref sig .tc).ty.Contents (Elt F)) (R : sProp 𝕄) :
    iprop(records X K ∗ atPos ER (recvCell c k) 0 ∅ 0 ∗ cred (tallyAt (recvCell c k) () N) ∗ pre4 c arg4 fw Y ∗ R)
      ⊢ wp frame (wpE (defs₀ (F := F)) Variants.none (c : Thread nD τ) none) Set.univ (part4At i arg4 harg4)
        (fun v => iprop(⌜v = ret4 i (wvOf arg4 fw)⌝ ∗ post4 X c i k.succ arg4 fw Y ∗ atPos ER (recvCell c k) 1 ∅ 0 ∗ R)) := by
  have h0 : k.succ ≠ 0 := Fin.succ_ne_zero k
  have c1 : ¬ k0_cond1 i = 1#1 := fun h => absurd (hs.symm.trans ((cond1_iff i).1 h).1) (Nat.succ_ne_zero _)
  have c5 : k0_cond5 i = 1#1 := (cond5_iff i).2 (fun h => absurd (hs.symm.trans h) (Nat.succ_ne_zero _))
  unfold part4At pre4 post4
  rw [k0_part4_eq_skeleton]
  unfold k0_part4_skel
  iintro ⟨#Hrec, Hat, Hcr, ⟨Hw, HY, ⟨%fi, Hi⟩, ⟨%fo, HO⟩, Hs, ⟨%W, Howes⟩⟩, HR⟩
  have hk := three k
  rcases hk with rfl | rfl | rfl
  · have c2 : cWait i 1#32 := (cWait_iff i 1).2 ⟨hs, hj⟩
    have c3 : ¬ cWait i 2#32 := fun h => absurd (hs.symm.trans ((cWait_iff i 2).1 h).1) (by decide)
    have c4 : ¬ cWait i 3#32 := fun h => absurd (hs.symm.trans ((cWait_iff i 3).1 h).1) (by decide)
    sl_exec
    ihave #Hinv := (inv_recv X K c 0) $$ Hrec
    iapply (Rounds.wp_wait_rest_token Variants.none ER (Rd X) (c : Thread nD τ) none (sm := .dma (recvS 0)) (κ := K (recvCell c 0))
      (wpE_waitDma2_eq Variants.none (c : Thread nD τ) none Set.univ) (Set.mem_univ _) () (O := 0) (W := W) (R := 0) (m := 0) (T := ∅)
      (by exact (Nat.zero_add _).trans (expect_recv X c 0).symm)) $$ [Hcr Howes Hat]
    · isplitr; · iexact Hinv
      isplitl [Hcr]; · iexact Hcr
      isplitl [Howes]; · iexact Howes
      isplitr; · rw [MayWait_zero]; iempintro
      iexact Hat
    iintro ⟨Howes, Hat, -, Hpay⟩
    ihave HG := (Entails.of_eq (rest_recv X c 0)) $$ Hpay
    unfold recvPay
    sl_exec
    sl_step
    isplitr; · ipureintro; rfl
    isplitr [HR Hat]
    · isplitl [HG]; · iexact HG
      isplitl [Hw]; · iexact Hw
      isplitl [HY]; · iexact HY
      isplitl [Hi]
      · iexists (iM.view.writes (Elt F) fi [⟨Rect.whole S2048x256, (yR i).view.read (Elt F) Y⟩])
        isplitr; · ipureintro; exact fun _ => read_iM fi _
        iexact Hi
      isplitl [HO]; · iexists _; iexact HO
      isplitl [Hs]; · iexact Hs
      iexists _; iexact Howes
    isplitl [Hat]; · iexact Hat
    iexact HR
  · have c2 : ¬ cWait i 1#32 := fun h => absurd (hs.symm.trans ((cWait_iff i 1).1 h).1) (by decide)
    have c3 : cWait i 2#32 := (cWait_iff i 2).2 ⟨hs, hj⟩
    have c4 : ¬ cWait i 3#32 := fun h => absurd (hs.symm.trans ((cWait_iff i 3).1 h).1) (by decide)
    sl_exec
    ihave #Hinv := (inv_recv X K c 1) $$ Hrec
    iapply (Rounds.wp_wait_rest_token Variants.none ER (Rd X) (c : Thread nD τ) none (sm := .dma (recvS 1)) (κ := K (recvCell c 1))
      (wpE_waitDma2_eq Variants.none (c : Thread nD τ) none Set.univ) (Set.mem_univ _) () (O := 0) (W := W) (R := 0) (m := 0) (T := ∅)
      (by exact (Nat.zero_add _).trans (expect_recv X c 1).symm)) $$ [Hcr Howes Hat]
    · isplitr; · iexact Hinv
      isplitl [Hcr]; · iexact Hcr
      isplitl [Howes]; · iexact Howes
      isplitr; · rw [MayWait_zero]; iempintro
      iexact Hat
    iintro ⟨Howes, Hat, -, Hpay⟩
    ihave HG := (Entails.of_eq (rest_recv X c 1)) $$ Hpay
    unfold recvPay
    sl_exec
    sl_step
    isplitr; · ipureintro; rfl
    isplitr [HR Hat]
    · isplitl [HG]; · iexact HG
      isplitl [Hw]; · iexact Hw
      isplitl [HY]; · iexact HY
      isplitl [Hi]
      · iexists (iM.view.writes (Elt F) fi [⟨Rect.whole S2048x256, (yR i).view.read (Elt F) Y⟩])
        isplitr; · ipureintro; exact fun _ => read_iM fi _
        iexact Hi
      isplitl [HO]; · iexists _; iexact HO
      isplitl [Hs]; · iexact Hs
      iexists _; iexact Howes
    isplitl [Hat]; · iexact Hat
    iexact HR
  · have c2 : ¬ cWait i 1#32 := fun h => absurd (hs.symm.trans ((cWait_iff i 1).1 h).1) (by decide)
    have c3 : ¬ cWait i 2#32 := fun h => absurd (hs.symm.trans ((cWait_iff i 2).1 h).1) (by decide)
    have c4 : cWait i 3#32 := (cWait_iff i 3).2 ⟨hs, hj⟩
    sl_exec
    ihave #Hinv := (inv_recv X K c 2) $$ Hrec
    iapply (Rounds.wp_wait_rest_token Variants.none ER (Rd X) (c : Thread nD τ) none (sm := .dma (recvS 2)) (κ := K (recvCell c 2))
      (wpE_waitDma2_eq Variants.none (c : Thread nD τ) none Set.univ) (Set.mem_univ _) () (O := 0) (W := W) (R := 0) (m := 0) (T := ∅)
      (by exact (Nat.zero_add _).trans (expect_recv X c 2).symm)) $$ [Hcr Howes Hat]
    · isplitr; · iexact Hinv
      isplitl [Hcr]; · iexact Hcr
      isplitl [Howes]; · iexact Howes
      isplitr; · rw [MayWait_zero]; iempintro
      iexact Hat
    iintro ⟨Howes, Hat, -, Hpay⟩
    ihave HG := (Entails.of_eq (rest_recv X c 2)) $$ Hpay
    unfold recvPay
    sl_exec
    sl_step
    isplitr; · ipureintro; rfl
    isplitr [HR Hat]
    · isplitl [HG]; · iexact HG
      isplitl [Hw]; · iexact Hw
      isplitl [HY]; · iexact HY
      isplitl [Hi]
      · iexists (iM.view.writes (Elt F) fi [⟨Rect.whole S2048x256, (yR i).view.read (Elt F) Y⟩])
        isplitr; · ipureintro; exact fun _ => read_iM fi _
        iexact Hi
      isplitl [HO]; · iexists _; iexact HO
      isplitl [Hs]; · iexact Hs
      iexists _; iexact Howes
    isplitl [Hat]; · iexact Hat
    iexact HR

end Cert.Proof.KernelIdeal

end
-- ==== Proof.Start.lean ====
/-
  The first part of the body at the first grid point: the barrier, the copy of the device's own rows, the three sends.
-/
module

public import proofs.«01_k».proof.Proof.Part4

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (main_v5 : Ref sig .tc).ty.Contents (Elt F))

/-! ## The signal to, and the send to, the j-th receiver -/

/-- The signal to the barrier of the j-th receiver, named n by the program. -/
theorem wp_sig (K : GSem nD τ sig → ℕ) (c n : Dev nD) (j : Fin 3) (hn : n = rot c (far j)) {O₁ : CellTallies nD τ sig Unit}
    (O : CellTallies nD τ sig Unit) (hO : O₁ = O + owesBar c j) {W : Waits sig Unit}
    {α : Type} {Q : α → sProp 𝕄} {k : PUnit → Prog (TpuEff nD τ sig (Elt F) Λ₀ .tc) α} :
    iprop(records X K ∗ owes (c : Thread nD τ) O₁ W ∗ dutyTok ER (barCell (rot c (far j))) 0 j.rev
        ∗ (∃ f, slotPts c (slotOf j.rev) f) ∗ reached ER (recvCell c (recvOf j.rev)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ
              (.op (.semSignal (Dev.tc n : Thread nD τ) barS 1) k) Q) := by
  subst hn
  iintro ⟨#Hrec, HO, Ht, Hs, Hr⟩
  iapply (Rounds.wp_signal Variants.none ER (Rd X) (c : Thread nD τ) none (dst := ((rot c (far j) : Dev nD) : Thread nD τ)) (sem := barS) (r := 0) (d := j.rev)
    (κ := K (barCell (rot c (far j)))) (by rw [duties_bar]; exact Finset.mem_univ _) (amount_bar X (rot c (far j)) j.rev) () O hO)
  isplitr; · iapply (inv_bar X K (rot c (far j))); iexact Hrec
  isplitl [HO]; · iexact HO
  isplitl [Ht]; · iexact Ht
  isplitl [Hs Hr]
  · iapply (Entails.of_eq ((payload_bar X (rot c (far j)) j.rev).trans (barPay_rev c j)).symm)
    isplitl [Hs]; · iexact Hs
    iexact Hr
  iapply (reached_bar X K (rot c (far j))); iexact Hrec

/-- A row block landed in a slot of its receiver is the filled slot. -/
theorem landed_pts (c : Dev nD) (s : Fin 4) (fd : (cc0_scratch0 : Ref sig .tc).ty.Contents (Elt F)) :
    (slotPts c s ((slotM s).view.write (Elt F) fd ((rowM c).view.read (Elt F) (X (snd c s))) Finset.univ) : sProp 𝕄) = slotPts c s (xg X c) :=
  pointsTo_congr (landed X c s fd)

/-- The send to the j-th receiver, named n by the program. -/
theorem wp_send (K : GSem nD τ sig → ℕ) (c n : Dev nD) (j : Fin 3) (hn : n = rot c (far j))
    {off : Fin 2 → Nat} {inb : ∀ a, off a + S2048x2048.size a ≤ S8192x2048.size a} (hoff : off = ![2048 * (rot c (far j)).val, 0])
    {O₁ : CellTallies nD τ sig Unit} (O : CellTallies nD τ sig Unit) (hO : O₁ = O + owesRecv c j) {W : Waits sig Unit}
    (fd : (cc0_scratch0 : Ref sig .tc).ty.Contents (Elt F))
    {hsc : (slotM (slotOf j) : Memref sig (Dev.tc n : Thread nD τ).2.kind .vmem S2048x2048 .bf16).view.ref.isScScratch = false}
    {hsrc : (xM.slice (Rect.unit (s := S8192x2048) off S2048x2048.size inb) (fun _ => rfl)).view.WordExact}
    {hdst : (slotM (slotOf j) : Memref sig .tc .vmem S2048x2048 .bf16).view.WordExact}
    {hsem : DmaTarget.Typed .hbm (.dma (recvS (recvOf j))) (.remote (Dev.tc n : Thread nD τ) (slotM (slotOf j)) (.dma (sendS j)) hsc)}
    {α : Type} {Q : α → sProp 𝕄} {k : PUnit → Prog (TpuEff nD τ sig (Elt F) Λ₀ .tc) α} :
    iprop(records X K ∗ rowPts c (rot c (far j)) (X c) ∗ slotPts (rot c (far j)) (slotOf j) fd
        ∗ owes (c : Thread nD τ) O₁ W ∗ dutyTok ER (sendCell c j) 0 0 ∗ reached ER (sendCell c j) 0
        ∗ dutyTok ER (recvCell (rot c (far j)) (recvOf j)) 0 0 ∗ reached ER (recvCell (rot c (far j)) (recvOf j)) 0)
      ⊢ iprop(((cred (tallyAt (sendCell c j) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (xM.slice (Rect.unit (s := S8192x2048) off S2048x2048.size inb) (fun _ => rfl))
                (.remote (Dev.tc n : Thread nD τ) (slotM (slotOf j)) (.dma (sendS j)) hsc) (.dma (recvS (recvOf j))) hsrc hdst hsem) k) Q) := by
  subst hn
  subst hoff
  have hN : (slotM (slotOf j)).view.amount (.dma (recvS (recvOf j))) = N := rfl
  have h1 : (rowPts c (rot c (far j)) (X c) : sProp 𝕄) ⊢ (Rd X).payload (sendCell c j) 0 0 := by
    rw [payload_send]; exact BI.Entails.refl _
  have h2 : (slotPts (rot c (far j)) (slotOf j) ((slotM (slotOf j)).view.write (Elt F) fd ((rowM (rot c (far j))).view.read (Elt F) (X c)) Finset.univ) : sProp 𝕄)
      ⊢ (Rd X).payload (recvCell (rot c (far j)) (recvOf j)) 0 0 := by
    rw [payload_recv]; unfold recvPay; rw [succ_recvOf]
    have h := landed_pts X (rot c (far j)) (slotOf j) fd
    rw [snd_rot] at h
    exact Entails.of_eq h
  have key := Rounds.wp_send_pointsTo Variants.none ER (Rd X) (c : Thread nD τ) none (κ₁ := K (sendCell c j)) (κ₂ := K (recvCell (rot c (far j)) (recvOf j)))
    (c' := (rot c (far j) : Thread nD τ)) (src := rowM (rot c (far j))) (dst := slotM (slotOf j)) (sS := .dma (sendS j)) (sem := .dma (recvS (recvOf j)))
    (hsc := hsc) (hsrc := hsrc) (hdst := hdst) (hsem := hsem) (k := k) (Q := Q) (Es := Set.univ) (Γ := .empty) (defs := defs₀ (F := F))
    (r₁ := 0) (r₂ := 0) (d₁ := 0) (d₂ := 0) (q := fullShare) (fs := X c) (fd := fd)
    (by rw [duties_send]; exact Finset.mem_singleton_self _) (by rw [duties_recv]; exact Finset.mem_singleton_self _)
    () () N hN (amount_send X c j 0) (amount_recv X (rot c (far j)) (recvOf j) 0) O hO (W := W) h1 h2

  iintro ⟨#Hrec, Hx, Hs, HO, Ht1, Hr1, Ht2, Hr2⟩
  iapply key
  isplitr; · iapply (inv_send X K c j); iexact Hrec
  isplitr; · iapply (inv_recv X K (rot c (far j)) (recvOf j)); iexact Hrec
  isplitl [Hx]; · iexact Hx
  isplitl [Hs]; · iexact Hs
  isplitl [HO]; · iexact HO
  isplitl [Ht1]; · iexact Ht1
  isplitl [Hr1]; · iexact Hr1
  isplitl [Ht2]; · iexact Ht2
  iexact Hr2

/-- The device's own rows, as the slice of x the program names. -/
theorem row_own {off : Fin 2 → Nat} {inb} {b : Fin 4} (h : off = ![2048 * b.val, 0]) (c : Dev nD)
    (f : (main_v5 : Ref sig .tc).ty.Contents (Elt F)) :
    (rowPts c b f : sProp 𝕄)
      = bufPts c (xM.slice (Rect.unit (s := S8192x2048) off S2048x2048.size inb) (fun _ => rfl)) f := by
  subst h; rfl

/-- The device's own rows copied to slot 0 fill it. -/
theorem own_landed {off : Fin 2 → Nat} {inb} (c : Dev nD) (h : off = ![2048 * c.val, 0])
    (fd : (cc0_scratch0 : Ref sig .tc).ty.Contents (Elt F)) :
    (slotPts c 0 ((slotM 0).view.writes (Elt F) fd [⟨Rect.whole S2048x2048,
      (xM.slice (Rect.unit (s := S8192x2048) off S2048x2048.size inb) (fun _ => rfl)).view.read (Elt F) (X c)⟩]) : sProp 𝕄)
      = slotPts c 0 (xg X c) := by
  subst h
  have hr : (slotM 0).view.read (Elt F) ((slotM 0).view.writes (Elt F) fd [⟨Rect.whole S2048x2048, (rowM c).view.read (Elt F) (X c)⟩])
      = (slotM 0).view.read (Elt F) (xg X c) := by
    rw [read_xg, snd_zero]
    funext x
    have h := View.read_writes_cons_emb (Val := Elt F) (slotM 0).view fd (Rect.whole S2048x2048) ((rowM c).view.read (Elt F) (X c)) [] x
    rw [Rect.emb_whole_apply] at h
    exact h
  exact pointsTo_congr (eq_on_of_read (slotM 0).view hr)

/-- What the first point finds: x by blocks of rows, the slots at any contents, every cell open. -/
def preStart (K : GSem nD τ sig → ℕ) (c : Dev nD) (arg4 : Memref sig .tc .vmem S2048x256 .f32) (fw : arg4.view.ref.ty.Contents (Elt F))
    (Y : (main_v9 : Ref sig .tc).ty.Contents (Elt F)) : sProp 𝕄 :=
  iprop(levAts L lv ∗ opened X K c ∗ rowPts c c (X c) ∗ (bigSep Finset.univ fun j : Fin 3 => rowPts c (rot c (far j)) (X c))
    ∗ (∃ f, slotPts c 0 f) ∗ (bigSep Finset.univ fun k : Fin 3 => iprop(∃ f, slotPts c k.succ f))
    ∗ semVal ((c : Thread nD τ), SemLoc.dma cc0_scratch3.sem) 0
    ∗ bufPts c arg4 fw ∗ bufPts c yM Y ∗ (∃ fi, bufPts c iM fi)
    ∗ (∃ fo, bufPts c oM fo) ∗ semVal ((c : Thread nD τ), SemLoc.dma cc0_scratch6.sem) 0 ∗ ∃ W, owes (c : Thread nD τ) (O₀ c) W)

/-- What the exchange leaves besides slot 0: the barrier cell closed, the sends under way, the receive cells to wait on. -/
def exchanged (c : Dev nD) : sProp 𝕄 :=
  iprop(semVal (barCell c) 0 ∗ semVal ((c : Thread nD τ), SemLoc.dma cc0_scratch3.sem) 0 ∗ rowPts c c (X c)
    ∗ (bigSep Finset.univ fun j : Fin 3 => iprop(atPos ER (sendCell c j) 0 ∅ 0 ∗ cred (tallyAt (sendCell c j) () N)))
    ∗ bigSep Finset.univ fun k : Fin 3 => iprop(atPos ER (recvCell c k) 0 ∅ 0 ∗ cred (tallyAt (recvCell c k) () N)))

/-- The first point. -/
theorem part4_start (K : GSem nD τ sig → ℕ) (c : Dev nD) (i : grid0.Coords) (hs : (i 0).val = 0) (hj : (i 1).val = 0)
    (arg4 : Memref sig .tc .vmem S2048x256 .f32) (harg4 : arg4.IsWhole) (fw : arg4.view.ref.ty.Contents (Elt F))
    (Y : (main_v9 : Ref sig .tc).ty.Contents (Elt F)) :
    preStart X K c arg4 fw Y
      ⊢ wp frame (wpE (defs₀ (F := F)) Variants.none (c : Thread nD τ) none) Set.univ (part4At i arg4 harg4)
        (fun v => iprop(⌜v = ret4 i (wvOf arg4 fw)⌝ ∗ post4 X c i 0 arg4 fw Y ∗ exchanged X c)) := by
  have c1 : k0_cond1 i = 1#1 := (cond1_iff i).2 ⟨hs, hj⟩
  have c2 : ¬ cWait i 1#32 := fun h => absurd (hs.symm.trans ((cWait_iff i 1).1 h).1) (by decide)
  have c3 : ¬ cWait i 2#32 := fun h => absurd (hs.symm.trans ((cWait_iff i 2).1 h).1) (by decide)
  have c4 : ¬ cWait i 3#32 := fun h => absurd (hs.symm.trans ((cWait_iff i 3).1 h).1) (by decide)
  have c5 : ¬ k0_cond5 i = 1#1 := fun h => (cond5_iff i).1 h hs
  unfold part4At preStart post4 exchanged opened
  rw [k0_part4_eq_skeleton]
  unfold k0_part4_skel
  simp only [bigSep_three]
  unfold toks
  iintro ⟨#Hlev, ⟨#Hrec, Hbar, ⟨⟨Hb0, Hs0, Hr0⟩, ⟨Hb1, Hs1, Hr1⟩, ⟨Hb2, Hs2, Hr2⟩⟩, ⟨⟨Has0, #Hrs0⟩, ⟨Has1, #Hrs1⟩, ⟨Has2, #Hrs2⟩⟩,
    ⟨⟨Har0, #Hrr0⟩, ⟨Har1, #Hrr1⟩, ⟨Har2, #Hrr2⟩⟩, Hcb, ⟨Hc0, Hc1, Hc2⟩⟩, Hx, ⟨Hx0, Hx1, Hx2⟩, ⟨%f0, Hg0⟩, ⟨Hg1, Hg2, Hg3⟩, Hl,
    Hw, HY, ⟨%fi, Hi⟩, ⟨%fo, HO⟩, Hs, ⟨%W, Howes⟩⟩
  sl_exec
  iapply (wp_sig X K c _ 0 (Fin.ext (dev1_eq c)) (Orecv c + owesBar c 2 + owesBar c 1) rfl) $$ [Howes Hb0 Hg2]
  · isplitr; · iexact Hrec
    isplitl [Howes]; · iexact Howes
    isplitl [Hb0]; · iexact Hb0
    isplitl [Hg2]; · iexact Hg2
    iexact Hrr1
  iintro Howes
  sl_exec
  iapply (wp_sig X K c _ 1 (Fin.ext (dev2_eq c)) (Orecv c + owesBar c 2) rfl) $$ [Howes Hb1 Hg3]
  · isplitr; · iexact Hrec
    isplitl [Howes]; · iexact Howes
    isplitl [Hb1]; · iexact Hb1
    isplitl [Hg3]; · iexact Hg3
    iexact Hrr2
  iintro Howes
  sl_exec
  iapply (wp_sig X K c _ 2 (Fin.ext (dev3_eq c)) (Orecv c) rfl) $$ [Howes Hb2 Hg1]
  · isplitr; · iexact Hrec
    isplitl [Howes]; · iexact Howes
    isplitl [Hb2]; · iexact Hb2
    isplitl [Hg1]; · iexact Hg1
    iexact Hrr0
  iintro Howes
  sl_exec
  iapply (Rounds.wp_wait_rest_token Variants.none ER (Rd X) (c : Thread nD τ) none (sm := .reg barS) (κ := K (barCell c))
    (wpE_semWait_eq Variants.none (c : Thread nD τ) none Set.univ) (Set.mem_univ _) () (O := Orecv c) (W := W) (R := 0) (m := 0) (T := ∅)
    (by exact (Nat.zero_add _).trans (expect_bar X c).symm)) $$ [Hcb Howes Hbar]
  · isplitr; · iapply (inv_bar X K c); iexact Hrec
    isplitl [Hcb]; · iexact Hcb
    isplitl [Howes]; · iexact Howes
    isplitr; · iapply (mayWait_bar c); iexact Hlev
    iexact Hbar
  iintro ⟨Howes, Hbar, -, Hpay⟩
  ihave Hp := (Entails.of_eq (rest_bar X c)) $$ Hpay
  unfold barPay
  icases Hp with ⟨⟨⟨%g0, Hd0⟩, #Hq0⟩, ⟨⟨%g1, Hd1⟩, #Hq1⟩, ⟨⟨%g2, Hd2⟩, #Hq2⟩⟩
  imod (Rounds.cell_close ER (Rd X) (Set.mem_univ (K (barCell c))) (fun h => h) (R := 0 + 1) (duties_later X (barCell c))) $$ [Hbar] with Hbz
  · isplitr; · iapply (inv_bar X K c); iexact Hrec
    iexact Hbar
  ihave Hxo := (Entails.of_eq (row_own (inb := k0_off2_inb i c c1) (off2_eq c) c (X c))) $$ Hx
  sl_exec
  iapply (wp_send X K c _ 0 (Fin.ext (dev4_eq c)) (off3_eq c 0) (owesRecv c 2 + owesRecv c 1) rfl g0) $$ [Hx0 Hd0 Howes Hs0 Hr0]
  · isplitr; · iexact Hrec
    isplitl [Hx0]; · iexact Hx0
    isplitl [Hd0]; · iexact Hd0
    isplitl [Howes]; · iexact Howes
    isplitl [Hs0]; · iexact Hs0
    isplitr; · iexact Hrs0
    isplitl [Hr0]; · iexact Hr0
    iexact Hq0
  iintro ⟨Hcs0, Howes⟩
  sl_exec
  iapply (wp_send X K c _ 1 (Fin.ext (dev5_eq c)) (off3_eq c 1) (owesRecv c 2) rfl g1) $$ [Hx1 Hd1 Howes Hs1 Hr1]
  · isplitr; · iexact Hrec
    isplitl [Hx1]; · iexact Hx1
    isplitl [Hd1]; · iexact Hd1
    isplitl [Howes]; · iexact Howes
    isplitl [Hs1]; · iexact Hs1
    isplitr; · iexact Hrs1
    isplitl [Hr1]; · iexact Hr1
    iexact Hq1
  iintro ⟨Hcs1, Howes⟩
  sl_exec
  iapply (wp_send X K c _ 2 (Fin.ext (dev6_eq c)) (off3_eq c 2) 0 (zero_add _).symm g2) $$ [Hx2 Hd2 Howes Hs2 Hr2]
  · isplitr; · iexact Hrec
    isplitl [Hx2]; · iexact Hx2
    isplitl [Hd2]; · iexact Hd2
    isplitl [Howes]; · iexact Howes
    isplitl [Hs2]; · iexact Hs2
    isplitr; · iexact Hrs2
    isplitl [Hr2]; · iexact Hr2
    iexact Hq2
  iintro ⟨Hcs2, Howes⟩
  sl_exec
  sl_step
  isplitr; · ipureintro; rfl
  isplitl [Hg0 Hw HY Hi HO Hs Howes]
  · isplitl [Hg0]
    · iapply (Entails.of_eq (own_landed (inb := k0_off2_inb i c c1) X c (off2_eq c) f0))
      iexact Hg0
    isplitl [Hw]; · iexact Hw
    isplitl [HY]; · iexact HY
    isplitl [Hi]
    · iexists fi; isplitr; · ipureintro; exact fun h => absurd rfl h
      iexact Hi
    isplitl [HO]; · iexists _; iexact HO
    isplitl [Hs]; · iexact Hs
    iexists _; iexact Howes
  isplitl [Hbz]; · iexact Hbz
  isplitl [Hl]; · iexact Hl
  isplitl [Hxo]
  · iapply (Entails.of_eq (row_own (inb := k0_off2_inb i c c1) (off2_eq c) c (X c)).symm)
    iexact Hxo
  isplitl [Has0 Hcs0 Has1 Hcs1 Has2 Hcs2]
  · isplitl [Has0 Hcs0]
    · isplitl [Has0]; · iexact Has0
      iexact Hcs0
    isplitl [Has1 Hcs1]
    · isplitl [Has1]; · iexact Has1
      iexact Hcs1
    isplitl [Has2]; · iexact Has2
    iexact Hcs2
  isplitl [Har0 Hc0]
  · isplitl [Har0]; · iexact Har0
    iexact Hc0
  isplitl [Har1 Hc1]
  · isplitl [Har1]; · iexact Har1
    iexact Hc1
  isplitl [Har2]; · iexact Har2
  iexact Hc2

end Cert.Proof.KernelIdeal

end
-- ==== Proof.Last.lean ====
/-
  The last grid point: the products, then the waits for the three sends; every cell is closed.
-/
module

public import proofs.«01_k».proof.Proof.Start

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (main_v5 : Ref sig .tc).ty.Contents (Elt F))

/-- What the last point finds of the protocol: the three sends under way, the three receives taken. -/
def lastPre (K : GSem nD τ sig → ℕ) (c : Dev nD) : sProp 𝕄 :=
  iprop(records X K
    ∗ (bigSep Finset.univ fun j : Fin 3 => iprop(atPos ER (sendCell c j) 0 ∅ 0 ∗ cred (tallyAt (sendCell c j) () N)))
    ∗ bigSep Finset.univ fun k : Fin 3 => atPos ER (recvCell c k) 1 ∅ 0)

/-- What it leaves of it: the rows sent, and every semaphore of the protocol at zero. -/
def lastPost (c : Dev nD) : sProp 𝕄 :=
  iprop((bigSep Finset.univ fun j : Fin 3 => rowPts c (rot c (far j)) (X c))
    ∗ (bigSep Finset.univ fun j : Fin 3 => semVal (sendCell c j) 0) ∗ bigSep Finset.univ fun k : Fin 3 => semVal (recvCell c k) 0)

/-- The last point, after its first part. -/
theorem wp_last (K : GSem nD τ sig → ℕ) (c : Dev nD) (i : grid0.Coords) (hs : (i 0).val = 3) (hl : cLast i)
    (arg4 : Memref sig .tc .vmem S2048x256 .f32) (harg4 : arg4.IsWhole) (fw : arg4.view.ref.ty.Contents (Elt F))
    (Y : (main_v9 : Ref sig .tc).ty.Contents (Elt F)) (P R : sProp 𝕄)
    (h4 : P ⊢ wp frame (wpE (defs₀ (F := F)) Variants.none (c : Thread nD τ) none) Set.univ (part4At i arg4 harg4)
      (fun v => iprop(⌜v = ret4 i (wvOf arg4 fw)⌝ ∗ post4 X c i 3 arg4 fw Y ∗ lastPre X K c ∗ R))) :
    P ⊢ wp frame (wpE (defs₀ (F := F)) Variants.none (c : Thread nD τ) none) Set.univ (bodyAt i arg4 harg4)
      (fun _ => iprop(postStep X c 3 arg4 fw (Ynext X c i 3 (wvOf arg4 fw) Y) ∗ lastPost X c ∗ R)) := by
  have c0 : ∀ k : Fin 4, Iff (cStep i (BitVec.ofNat 32 k.val)) ((3 : Fin 4).val = k.val) := fun k => by rw [cStep_iff, hs]; rfl
  unfold bodyAt
  rw [cc0__fused_body_eq_skeleton]
  unfold cc0__fused_body_skel
  rw [wp_bind]
  refine h4.trans (wp_mono _ _ _ fun v => ?_)
  unfold post4 lastPre lastPost
  simp only [bigSep_three]
  iintro ⟨%hv, ⟨HG, Hw, HY, ⟨%fi, %hfi, Hi⟩, ⟨%fo, HO⟩, Hs, ⟨%W, Howes⟩⟩,
    ⟨#Hrec, ⟨⟨Hs0, Hc0⟩, ⟨Hs1, Hc1⟩, ⟨Hs2, Hc2⟩⟩, ⟨Hr0, Hr1, Hr2⟩⟩, HR⟩
  subst hv
  have hsub := slot_sub 3
  have c6 : ¬ cStep i 0#32 := fun h => absurd ((c0 0).1 h) (by decide)
  have c7 : ¬ cStep i 1#32 := fun h => absurd ((c0 1).1 h) (by decide)
  have c8 : ¬ cStep i 2#32 := fun h => absurd ((c0 2).1 h) (by decide)
  have c9 : cStep i 3#32 := (c0 3).2 rfl
  sl_exec
  iapply (Rounds.wp_wait_rest_token Variants.none ER (Rd X) (c : Thread nD τ) none (sm := .dma (sendS 0)) (κ := K (sendCell c 0))
    (wpE_waitDma2_eq Variants.none (c : Thread nD τ) none Set.univ) (Set.mem_univ _) () (O := 0) (W := _) (R := 0) (m := 0) (T := ∅)
    (by exact (Nat.zero_add _).trans (expect_send X c 0).symm)) $$ [Hc0 Howes Hs0]
  · isplitr; · iapply (inv_send X K c 0); iexact Hrec
    isplitl [Hc0]; · iexact Hc0
    isplitl [Howes]; · iexact Howes
    isplitr; · rw [MayWait_zero]; iempintro
    iexact Hs0
  iintro ⟨Howes, Hs0, -, Hpay0⟩
  iapply (Rounds.wp_wait_rest_token Variants.none ER (Rd X) (c : Thread nD τ) none (sm := .dma (sendS 1)) (κ := K (sendCell c 1))
    (wpE_waitDma2_eq Variants.none (c : Thread nD τ) none Set.univ) (Set.mem_univ _) () (O := 0) (W := _) (R := 0) (m := 0) (T := ∅)
    (by exact (Nat.zero_add _).trans (expect_send X c 1).symm)) $$ [Hc1 Howes Hs1]
  · isplitr; · iapply (inv_send X K c 1); iexact Hrec
    isplitl [Hc1]; · iexact Hc1
    isplitl [Howes]; · iexact Howes
    isplitr; · rw [MayWait_zero]; iempintro
    iexact Hs1
  iintro ⟨Howes, Hs1, -, Hpay1⟩
  iapply (Rounds.wp_wait_rest_token Variants.none ER (Rd X) (c : Thread nD τ) none (sm := .dma (sendS 2)) (κ := K (sendCell c 2))
    (wpE_waitDma2_eq Variants.none (c : Thread nD τ) none Set.univ) (Set.mem_univ _) () (O := 0) (W := _) (R := 0) (m := 0) (T := ∅)
    (by exact (Nat.zero_add _).trans (expect_send X c 2).symm)) $$ [Hc2 Howes Hs2]
  · isplitr; · iapply (inv_send X K c 2); iexact Hrec
    isplitl [Hc2]; · iexact Hc2
    isplitl [Howes]; · iexact Howes
    isplitr; · rw [MayWait_zero]; iempintro
    iexact Hs2
  iintro ⟨Howes, Hs2, -, Hpay2⟩
  imod (Rounds.cell_close ER (Rd X) (Set.mem_univ (K (sendCell c 0))) (fun h => h) (R := 0 + 1) (duties_later X (sendCell c 0))) $$ [Hs0] with Hz0
  · isplitr; · iapply (inv_send X K c 0); iexact Hrec
    iexact Hs0
  imod (Rounds.cell_close ER (Rd X) (Set.mem_univ (K (sendCell c 1))) (fun h => h) (R := 0 + 1) (duties_later X (sendCell c 1))) $$ [Hs1] with Hz1
  · isplitr; · iapply (inv_send X K c 1); iexact Hrec
    iexact Hs1
  imod (Rounds.cell_close ER (Rd X) (Set.mem_univ (K (sendCell c 2))) (fun h => h) (R := 0 + 1) (duties_later X (sendCell c 2))) $$ [Hs2] with Hz2
  · isplitr; · iapply (inv_send X K c 2); iexact Hrec
    iexact Hs2
  imod (Rounds.cell_close ER (Rd X) (Set.mem_univ (K (recvCell c 0))) (fun h => h) (R := 0 + 1) (duties_later X (recvCell c 0))) $$ [Hr0] with Hy0
  · isplitr; · iapply (inv_recv X K c 0); iexact Hrec
    iexact Hr0
  imod (Rounds.cell_close ER (Rd X) (Set.mem_univ (K (recvCell c 1))) (fun h => h) (R := 0 + 1) (duties_later X (recvCell c 1))) $$ [Hr1] with Hy1
  · isplitr; · iapply (inv_recv X K c 1); iexact Hrec
    iexact Hr1
  imod (Rounds.cell_close ER (Rd X) (Set.mem_univ (K (recvCell c 2))) (fun h => h) (R := 0 + 1) (duties_later X (recvCell c 2))) $$ [Hr2] with Hy2
  · isplitr; · iapply (inv_recv X K c 2); iexact Hrec
    iexact Hr2
  simp only [Prog.bind]
  sl_step
  iapply (close_step X c i 3 arg4 fw Y _ (oM.view.read (Elt F) (oM.view.writes (Elt F) fo [⟨blkR, k0_pay4 (k0_pay5 (wvOf arg4 fw)) (gM.view.readAt (Elt F) (slotR 3).toLoadRect (xg X c)) ((yR i).view.read (Elt F) Y)⟩]))
    (read_oM fo _))
  isplitl [HG]; · iexact HG
  isplitl [Hw]; · iexact Hw
  isplitl [HY]; · iexact HY
  isplitl [Hi]; · iexists _; iexact Hi
  isplitl [HO]; · iexists _; iexact HO
  isplitl [Hs]; · iexact Hs
  isplitl [Howes]; · iexists _; iexact Howes
  isplitr [HR]
  · isplitl [Hpay0 Hpay1 Hpay2]
    · isplitl [Hpay0]; · iapply (Entails.of_eq ((rest_send X c 0).trans (show sendPay X c 0 = rowPts c (rot c (far 0)) (X c) from rfl))); iexact Hpay0
      isplitl [Hpay1]; · iapply (Entails.of_eq ((rest_send X c 1).trans (show sendPay X c 1 = rowPts c (rot c (far 1)) (X c) from rfl))); iexact Hpay1
      iapply (Entails.of_eq ((rest_send X c 2).trans (show sendPay X c 2 = rowPts c (rot c (far 2)) (X c) from rfl))); iexact Hpay2
    isplitl [Hz0 Hz1 Hz2]
    · isplitl [Hz0]; · iexact Hz0
      isplitl [Hz1]; · iexact Hz1
      iexact Hz2
    isplitl [Hy0]; · iexact Hy0
    isplitl [Hy1]; · iexact Hy1
    iexact Hy2
  iexact HR

end Cert.Proof.KernelIdeal

end
-- ==== Proof.Tables.lean ====
/-
  The prefetched table of each device: the order in which the device takes the blocks of w, which is the order of the devices
  whose rows its slots hold. It is admissible, and the host computes it before the region.
-/
module

public import proofs.«01_k».proof.Proof.Last
public import proofs.«01_k».proof.Proof.Gen.KernelIdeal.Launch
public import proofs.«01_k».proof.Proof.Gen.KernelIdeal.Regions

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Device c's table: entry p is the device whose rows slot p holds. -/
def tbl (c : Dev nD) : pre0.Contents (Elt F) :=
  fun | 0 => fun x : S4.Idx => BitVec.ofNat 32 (snd c (x 0)).val | ⟨_ + 1, h⟩ => absurd h (Nat.not_lt.2 (Nat.le_add_left _ _))

/-- The window's block at a point: the sender's rows of w, the point's columns. -/
theorem tbl_at (c : Dev nD) (i : grid0.Coords) :
    cc0_transform_1 Gen.facts.k0_off1_inb Gen.facts.numel1_S1 (tbl (F := F) c) i = ![(snd c (i 0)).val, (i 1).val] := by
  have h0 : (i 0).val < 4 := (i 0).isLt
  have h1 : (i 1).val < 16 := (i 1).isLt
  have key : ∀ q : Fin 4, q = i 0 → (BitVec.ofNat 32 (snd c q).val).toNat = (snd c (i 0)).val := fun q hq => by
    rw [hq, BitVec.toNat_ofNat, Nat.mod_eq_of_lt (lt_trans (snd c (i 0)).isLt (by decide))]
  unfold cc0_transform_1
  funext a
  fin_cases a
  · refine key _ (Fin.ext ?_)
    show (BitVec.ofNat 32 (i 0).val).toNat + 1 * 0 = (i 0).val
    rw [BitVec.toNat_ofNat, Nat.mod_eq_of_lt (by omega)]; rfl
  · exact (BitVec.toNat_ofNat _ _).trans (Nat.mod_eq_of_lt (by omega))

/-- Every such block lies inside w. -/
theorem tbl_ok (c : Dev nD) : ok0 (tbl (F := F) c) := by
  intro i
  refine ⟨fun a => ?_, Or.inl rfl⟩
  rw [tbl_at]
  have h0 : (snd c (i 0)).val < 4 := (snd c (i 0)).isLt
  have h1 : (i 1).val < 16 := (i 1).isLt
  fin_cases a
  · show ((snd c (i 0)).val + 1) * 2048 ≤ 8192
    omega
  · show ((i 1).val + 1) * 256 ≤ 4096
    omega

/-- The table with the evidence. -/
def adm (c : Dev nD) : (p : Fin 1) → (pcfgs (F := F) p).Adm := fun _ => ⟨tbl c, tbl_ok c⟩

variable (m : (ℓ : Loc nD τ sig) → Buf (Elt F) ℓ)

/-- The table as the program computes it, word by word. -/
theorem words : ∀ (c : Dev nD) (k : Fin S4.numel),
    (Scalar.select
      (IntOp.andi
        (IntOp.cmpi .ne
          (IntOp.cmpi .slt
            (IntOp.remsi .host
              (IntOp.addi (lit0 k) (IntOp.remui .host (IntOp.divui .host c.word 1#32) 4#32))
              (Scalar.select (IntOp.cmpi .eq 4#32 0#32) 1#32 4#32))
            0#32)
          (IntOp.cmpi .slt (Scalar.select (IntOp.cmpi .eq 4#32 0#32) 1#32 4#32) 0#32))
        (IntOp.cmpi .ne
          (IntOp.remsi .host
            (IntOp.addi (lit0 k) (IntOp.remui .host (IntOp.divui .host c.word 1#32) 4#32))
            (Scalar.select (IntOp.cmpi .eq 4#32 0#32) 1#32 4#32))
          0#32))
      (IntOp.addi
        (IntOp.remsi .host
          (IntOp.addi (lit0 k) (IntOp.remui .host (IntOp.divui .host c.word 1#32) 4#32))
          (Scalar.select (IntOp.cmpi .eq 4#32 0#32) 1#32 4#32))
        (Scalar.select (IntOp.cmpi .eq 4#32 0#32) 1#32 4#32))
      (IntOp.remsi .host
        (IntOp.addi (lit0 k) (IntOp.remui .host (IntOp.divui .host c.word 1#32) 4#32))
        (Scalar.select (IntOp.cmpi .eq 4#32 0#32) 1#32 4#32)) : BitVec 32)
      = BitVec.ofNat 32 (snd c (S4.rowMajor.symm k 0)).val := by
  decide

/-- The program's table is that one. -/
theorem V_tbl (c : Dev nD) : V2 m c main_v8 = tbl (F := F) c 0 := by
  unfold V2 V1
  after_results_simp
  funext x
  obtain ⟨k, rfl⟩ := S4.rowMajor.symm.surjective x
  simp only [StableHlo.TRef.ofBuf, StableHlo.TRef.toBuf, cast_eq, cast_cast, id, eq_mp_eq_cast, eq_mpr_eq_cast]
  simp only [select, andi, cmpi, addi, Host.remsi, Host.remui, Host.divui, broadcastInDim, constantI, Equiv.apply_symm_apply]
  exact words c k

end Cert.Proof.KernelIdeal

end
-- ==== Proof.Points.lean ====
/-
  The body's invariant from grid point to grid point: what the first point finds, what every later point finds, what the last
  one leaves; and that the body carries it across each point.
-/
module

public import proofs.«01_k».proof.Proof.Tables

@[expose] public section

noncomputable section

namespace Cert.Proof.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The grid's points -/

/-- Point t is step t / 16, column block t mod 16. -/
theorem at_coords : ∀ t : Fin grid0.N, (grid0.coords t 0).val = t.val / 16 ∧ (grid0.coords t 1).val = t.val % 16 := by decide +kernel

/-- The step of a point. -/
def stp (t : Fin grid0.N) : Fin 4 := ⟨(grid0.coords t 0).val, (grid0.coords t 0).isLt⟩

/-- There are 64 points. -/
theorem lt_N {n : ℕ} (h : n < 64) : n < grid0.N := N_0.symm ▸ h

variable (m : (ℓ : Loc nD τ sig) → Buf (Elt F) ℓ)

/-- What every device's x holds when the kernel starts. -/
def xin (c : Dev nD) : (main_v5 : Ref sig .tc).ty.Contents (Elt F) := V2 m c main_v5

/-- The block of w that device c works with at point t. -/
def Wb (c : Dev nD) (t : Fin grid0.N) : Vec F S2048x256 .f32 :=
  ((win0 (adm (F := F) c 0) 0).blk t).view.read (Elt F) (V2 m c main_arg1)

/-- The result's contents before point n. -/
def Yat (c : Dev nD) : ℕ → (main_v9 : Ref sig .tc).ty.Contents (Elt F)
  | 0 => V2 m c main_v9
  | n + 1 => if h : n < 64 then Ynext (xin m) c (grid0.coords ⟨n, lt_N h⟩) (stp ⟨n, lt_N h⟩) (Wb m c ⟨n, lt_N h⟩) (Yat c n) else Yat c n

/-- One point's step. -/
theorem Yat_succ (c : Dev nD) (t : Fin grid0.N) :
    Yat m c (t.val + 1) = Ynext (xin m) c (grid0.coords t) (stp t) (Wb m c t) (Yat m c t.val) := by
  have h : t.val < 64 := N_0 ▸ t.isLt
  rw [Yat, dif_pos h]

/-! ## The invariant -/

/-- What the first point finds. -/
def startS (K : GSem nD τ sig → ℕ) (c : Dev nD) : sProp 𝕄 :=
  iprop(levAts L lv ∗ opened (xin m) K c ∗ rowPts c c (xin m c) ∗ (bigSep Finset.univ fun j : Fin 3 => rowPts c (rot c (far j)) (xin m c))
    ∗ (∃ f, slotPts c 0 f) ∗ (bigSep Finset.univ fun k : Fin 3 => iprop(∃ f, slotPts c k.succ f))
    ∗ semVal ((c : Thread nD τ), SemLoc.dma cc0_scratch3.sem) 0 ∗ bufPts c yM (Yat m c 0)
    ∗ (∃ fi, bufPts (F := F) c iM fi) ∗ (∃ fo, bufPts (F := F) c oM fo) ∗ semVal ((c : Thread nD τ), SemLoc.dma cc0_scratch6.sem) 0)

/-- A receive cell and its slot before point n: the slot filled and the cell past its wait, or the wait still to come. -/
def got (c : Dev nD) (n : ℕ) (k : Fin 3) : sProp 𝕄 :=
  if 16 * (k.val + 1) < n then iprop(slotPts c k.succ (xg (xin m) c) ∗ atPos ER (recvCell c k) 1 ∅ 0)
  else iprop(atPos ER (recvCell c k) 0 ∅ 0 ∗ cred (tallyAt (recvCell c k) () N))

/-- What stays as it is between the first point and the last. -/
def keep (K : GSem nD τ sig → ℕ) (c : Dev nD) : sProp 𝕄 :=
  iprop(semVal (barCell c) 0 ∗ semVal ((c : Thread nD τ), SemLoc.dma cc0_scratch3.sem) 0 ∗ rowPts c c (xin m c)
    ∗ (bigSep Finset.univ fun j : Fin 3 => iprop(atPos ER (sendCell c j) 0 ∅ 0 ∗ cred (tallyAt (sendCell c j) () N)))
    ∗ records (xin m) K)

/-- The slots and the receive cells before point n. -/
def slotsS (c : Dev nD) (n : ℕ) : sProp 𝕄 :=
  iprop(slotPts c 0 (xg (xin m) c) ∗ bigSep Finset.univ (got m c n))

/-- The result and the two blocks beside it before point n. -/
def blocksS (c : Dev nD) (n : ℕ) : sProp 𝕄 :=
  iprop(bufPts c yM (Yat m c n) ∗ (∃ fi, bufPts (F := F) c iM fi) ∗ (∃ fo, bufPts (F := F) c oM fo) ∗ semVal ((c : Thread nD τ), SemLoc.dma cc0_scratch6.sem) 0)

/-- What every point after the first finds. -/
def midS (K : GSem nD τ sig → ℕ) (c : Dev nD) (n : ℕ) : sProp 𝕄 :=
  iprop(keep m K c ∗ slotsS m c n ∗ blocksS m c n)

/-- What the last point leaves. -/
def endS (c : Dev nD) : sProp 𝕄 :=
  iprop(semVal (barCell c) 0 ∗ semVal ((c : Thread nD τ), SemLoc.dma cc0_scratch3.sem) 0 ∗ rowPts c c (xin m c)
    ∗ lastPost (xin m) c ∗ (bigSep Finset.univ fun s : Fin 4 => slotPts c s (xg (xin m) c)) ∗ blocksS m c 64)

/-- The body's invariant before point n. -/
def PhiN (c : Dev nD) (n : ℕ) : sProp 𝕄 :=
  if n = 0 then iprop(∃ K, startS m K c) else if n < 64 then iprop(∃ K, midS m K c n) else endS m c

/-- Before the first point. -/
theorem PhiN_zero (c : Dev nD) : PhiN m c 0 = iprop(∃ K, startS m K c) := if_pos rfl
/-- Between the first and the last. -/
theorem PhiN_mid (c : Dev nD) (n : ℕ) (h0 : n ≠ 0) (h : n < 64) : PhiN m c n = iprop(∃ K, midS m K c n) := (if_neg h0).trans (if_pos h)
/-- After the last. -/
theorem PhiN_end (c : Dev nD) : PhiN m c 64 = endS m c := rfl

/-! ## The slots from point to point -/

/-- A slot that was waited for is held. -/
theorem got_after (c : Dev nD) (n : ℕ) (k : Fin 3) (h : 16 * (k.val + 1) < n) :
    got m c n k = iprop(slotPts c k.succ (xg (xin m) c) ∗ atPos ER (recvCell c k) 1 ∅ 0) := if_pos h
/-- One that was not is awaited. -/
theorem got_before (c : Dev nD) (n : ℕ) (k : Fin 3) (h : ¬ 16 * (k.val + 1) < n) :
    got m c n k = iprop(atPos ER (recvCell c k) 0 ∅ 0 ∗ cred (tallyAt (recvCell c k) () N)) := if_neg h
/-- Which changes only at the point that waits. -/
theorem got_same (c : Dev nD) (n : ℕ) (k : Fin 3) (h : n ≠ 16 * (k.val + 1)) : got m c (n + 1) k = got m c n k := by
  unfold got
  by_cases h' : 16 * (k.val + 1) < n
  · rw [if_pos h', if_pos (by omega)]
  · rw [if_neg h', if_neg (by omega)]

/-- A filled slot can be taken out and put back. -/
theorem slots_take (c : Dev nD) (n : ℕ) (s : Fin 4) (h : s.val = 0 ∨ 16 * s.val < n) :
    slotsS m c n ⊢ iprop(slotPts c s (xg (xin m) c) ∗ (slotPts c s (xg (xin m) c) -∗ slotsS m c n)) := by
  unfold slotsS
  rcases Fin.eq_zero_or_eq_succ s with rfl | ⟨k, rfl⟩
  · iintro ⟨H0, HB⟩
    isplitl [H0]; · iexact H0
    iintro H0
    isplitl [H0]; · iexact H0
    iexact HB
  · have hk : 16 * (k.val + 1) < n := by
      rcases h with h | h
      · exact absurd h (Nat.succ_ne_zero _)
      · exact h
    rw [show bigSep Finset.univ (got m c n) = iprop(got m c n k ∗ bigSep (Finset.univ.erase k) (got m c n)) from bigSep_univ_split k,
      got_after m c n k hk]
    iintro ⟨H0, ⟨Hs, Ha⟩, HB⟩
    isplitl [Hs]; · iexact Hs
    iintro Hs
    isplitl [H0]; · iexact H0
    isplitl [Hs Ha]
    · isplitl [Hs]; · iexact Hs
      iexact Ha
    iexact HB

/-- No receive cell changes across a point at which none is waited on. -/
theorem slots_same (c : Dev nD) (n : ℕ) (h : ∀ k : Fin 3, n ≠ 16 * (k.val + 1)) : slotsS m c (n + 1) = slotsS m c n := by
  unfold slotsS
  rw [bigSep_congr fun k _ => got_same m c n k (h k)]

/-- The cell waited on next, out of the three. -/
theorem got_take (c : Dev nD) (n : ℕ) (k : Fin 3) (h : ¬ 16 * (k.val + 1) < n) :
    bigSep Finset.univ (got m c n)
      ⊢ iprop((atPos ER (recvCell c k) 0 ∅ 0 ∗ cred (tallyAt (recvCell c k) () N)) ∗ bigSep (Finset.univ.erase k) (got m c n)) := by
  rw [show bigSep Finset.univ (got m c n) = iprop(got m c n k ∗ bigSep (Finset.univ.erase k) (got m c n)) from bigSep_univ_split k,
    got_before m c n k h]

/-- At the last point every slot is filled. -/
theorem got_all (c : Dev nD) : bigSep Finset.univ (got m c 63)
    ⊢ iprop((slotPts c 1 (xg (xin m) c) ∗ slotPts c 2 (xg (xin m) c) ∗ slotPts c 3 (xg (xin m) c))
        ∗ bigSep Finset.univ fun k : Fin 3 => atPos ER (recvCell c k) 1 ∅ 0) := by
  rw [bigSep_congr fun k (_ : k ∈ Finset.univ) => got_after m c 63 k (by have := k.isLt; omega), bigSep_sep', bigSep_three]
  exact .rfl

/-! ## The body at each point -/

/-- What the body is held to at point t. -/
abbrev holds (c : Dev nD) (t : Fin grid0.N) (arg4 : Memref sig .tc .vmem S2048x256 .f32) (harg4 : arg4.IsWhole)
    (fw : arg4.view.ref.ty.Contents (Elt F)) (O : CellTallies nD τ sig Unit) : Prop :=
  iprop(PhiN m c t.val ∗ bufPts c arg4 fw ∗ ∃ W, owes (c : Thread nD τ) O W)
    ⊢ wp frame (wpE (defs₀ (F := F)) Variants.none (c : Thread nD τ) none) Set.univ (bodyAt (grid0.coords t) arg4 harg4)
      (fun _ => iprop(PhiN m c (t.val + 1) ∗ bufPts c arg4 fw ∗ ∃ W, owes (c : Thread nD τ) 0 W))

/-- The records may be kept. -/
theorem start_records (K : GSem nD τ sig → ℕ) (c : Dev nD) : startS m K c ⊢ iprop(records (xin m) K ∗ startS m K c) := by
  unfold startS opened
  iintro ⟨Hl, ⟨#Hrec, Ho⟩, HR⟩
  isplitr; · iexact Hrec
  isplitl [Hl]; · iexact Hl
  isplitl [Ho]
  · isplitr; · iexact Hrec
    iexact Ho
  iexact HR

section

variable (c : Dev nD) (t : Fin grid0.N) (arg4 : Memref sig .tc .vmem S2048x256 .f32) (harg4 : arg4.IsWhole)
  (fw : arg4.view.ref.ty.Contents (Elt F)) (hw : wvOf arg4 fw = Wb m c t)

include hw

/-- The body's step is the next contents. -/
theorem Y_step : Ynext (xin m) c (grid0.coords t) (stp t) (wvOf arg4 fw) (Yat m c t.val) = Yat m c (t.val + 1) := by
  rw [hw, ← Yat_succ]

/-- The first point: the barrier, the sends and slot 0. -/
theorem point_start (h : t.val = 0) : holds m c t arg4 harg4 fw (O₀ c) := by
  have hc := at_coords t
  rw [h] at hc
  have hs : (grid0.coords t 0).val = 0 := hc.1
  have hj : (grid0.coords t 1).val = 0 := hc.2
  have hst : stp t = 0 := Fin.ext hs
  have hl : ¬ cLast (grid0.coords t) := fun hh => absurd (hs.symm.trans ((cLast_iff _).1 hh).1) (by decide)
  have hY := Y_step m c t arg4 fw hw
  rw [hst] at hY
  unfold holds
  rw [h] at hY ⊢
  rw [PhiN_zero]
  iintro ⟨⟨%K, HS⟩, Hw, HO⟩
  ihave Hrec := (start_records m K c) $$ HS
  icases Hrec with ⟨#Hrec, HS⟩
  iapply (wp_wand_r frame _ Set.univ)
  isplitl [HS Hw HO]
  · iapply (wp_of_part4 (xin m) c (grid0.coords t) 0 hs hl arg4 harg4 fw (Yat m c 0) _ _
      (part4_start (xin m) K c (grid0.coords t) hs hj arg4 harg4 fw (Yat m c 0)))
    unfold startS preStart
    icases HS with ⟨Hl, Ho, Hx, Hxs, H0, Hss, Hg, HY, Hi, Hoo, Hy⟩
    isplitl [Hl]; · iexact Hl
    isplitl [Ho]; · iexact Ho
    isplitl [Hx]; · iexact Hx
    isplitl [Hxs]; · iexact Hxs
    isplitl [H0]; · iexact H0
    isplitl [Hss]; · iexact Hss
    isplitl [Hg]; · iexact Hg
    isplitl [Hw]; · iexact Hw
    isplitl [HY]; · iexact HY
    isplitl [Hi]; · iexact Hi
    isplitl [Hoo]; · iexact Hoo
    isplitl [Hy]; · iexact Hy
    iexact HO
  iintro %v ⟨HP, HE⟩
  rw [hY]
  unfold postStep exchanged
  icases HP with ⟨H0, Hw, HY, Hi, Hoo, Hy, HO⟩
  icases HE with ⟨Hb, Hg, Hx, Hse, Hre⟩
  isplitr [Hw HO]
  · rw [PhiN_mid m c _ (by decide) (by decide)]
    iexists K
    unfold midS keep slotsS blocksS
    isplitl [Hb Hg Hx Hse]
    · isplitl [Hb]; · iexact Hb
      isplitl [Hg]; · iexact Hg
      isplitl [Hx]; · iexact Hx
      isplitl [Hse]; · iexact Hse
      iexact Hrec
    isplitl [H0 Hre]
    · isplitl [H0]; · iexact H0
      rw [bigSep_congr fun k _ => got_before m c (0 + 1) k (by omega)]
      iexact Hre
    isplitl [HY]; · iexact HY
    isplitl [Hi]; · iexact Hi
    isplitl [Hoo]; · iexact Hoo
    iexact Hy
  isplitl [Hw]; · iexact Hw
  iexact HO

/-- A step's first point: slot k+1 arrives. -/
theorem point_wait (k : Fin 3) (h : t.val = 16 * (k.val + 1)) : holds m c t arg4 harg4 fw 0 := by
  have hc := at_coords t
  have hk := k.isLt
  have hs : (grid0.coords t 0).val = k.succ.val := by rw [hc.1, Fin.val_succ]; omega
  have hj : (grid0.coords t 1).val = 0 := by rw [hc.2]; omega
  have hst : stp t = k.succ := Fin.ext hs
  have hl : ¬ cLast (grid0.coords t) := fun hh => absurd (hj.symm.trans ((cLast_iff _).1 hh).2) (by decide)
  have hY := Y_step m c t arg4 fw hw
  rw [hst] at hY
  unfold holds
  rw [PhiN_mid m c _ (by omega) (by omega), PhiN_mid m c _ (by omega) (by omega)]
  iintro ⟨⟨%K, HS⟩, Hw, HO⟩
  unfold midS keep slotsS blocksS
  icases HS with ⟨⟨Hb, Hg, Hx, Hse, #Hrec⟩, ⟨H0, HG⟩, HY, Hi, Hoo, Hy⟩
  ihave HT := (got_take m c t.val k (by omega)) $$ HG
  icases HT with ⟨⟨Ha, Hc⟩, HG⟩
  iapply (wp_wand_r frame _ Set.univ)
  isplitl [Ha Hc HY Hi Hoo Hy Hw HO]
  · iapply (wp_of_part4 (xin m) c (grid0.coords t) k.succ hs hl arg4 harg4 fw (Yat m c t.val) _ _
      (part4_wait (xin m) K c (grid0.coords t) k hs hj arg4 harg4 fw (Yat m c t.val) BI.emp))
    unfold pre4
    isplitr; · iexact Hrec
    isplitl [Ha]; · iexact Ha
    isplitl [Hc]; · iexact Hc
    isplitl
    · isplitl [Hw]; · iexact Hw
      isplitl [HY]; · iexact HY
      isplitl [Hi]; · iexact Hi
      isplitl [Hoo]; · iexact Hoo
      isplitl [Hy]; · iexact Hy
      iexact HO
    iempintro
  iintro %v ⟨HP, Ha, -⟩
  rw [hY]
  unfold postStep
  icases HP with ⟨Hs, Hw, HY, Hi, Hoo, Hy, HO⟩
  isplitr [Hw HO]
  · iexists K
    isplitl [Hb Hg Hx Hse]
    · isplitl [Hb]; · iexact Hb
      isplitl [Hg]; · iexact Hg
      isplitl [Hx]; · iexact Hx
      isplitl [Hse]; · iexact Hse
      iexact Hrec
    isplitl [H0 HG Hs Ha]
    · isplitl [H0]; · iexact H0
      rw [show bigSep Finset.univ (got m c (t.val + 1)) = iprop(got m c (t.val + 1) k ∗ bigSep (Finset.univ.erase k) (got m c (t.val + 1))) from bigSep_univ_split k,
        got_after m c (t.val + 1) k (by omega), bigSep_congr fun k' hk' => got_same m c t.val k' (by
          have := Fin.val_ne_of_ne (Finset.ne_of_mem_erase hk'); omega)]
      isplitr [HG]
      · isplitl [Hs]; · iexact Hs
        iexact Ha
      iexact HG
    isplitl [HY]; · iexact HY
    isplitl [Hi]; · iexact Hi
    isplitl [Hoo]; · iexact Hoo
    iexact Hy
  isplitl [Hw]; · iexact Hw
  iexact HO

/-- A point that only multiplies. -/
theorem point_plain (hj : t.val % 16 ≠ 0) (hl : t.val ≠ 63) : holds m c t arg4 harg4 fw 0 := by
  have hc := at_coords t
  have hN : t.val < 64 := N_0 ▸ t.isLt
  have hs : (grid0.coords t 0).val = (stp t).val := rfl
  have hs' : (stp t).val = t.val / 16 := hc.1
  have hj' : (grid0.coords t 1).val ≠ 0 := by rw [hc.2]; exact hj
  have hl' : ¬ cLast (grid0.coords t) := fun hh => by
    have h3 := (cLast_iff _).1 hh
    rw [hc.1, hc.2] at h3; omega
  have hY := Y_step m c t arg4 fw hw
  unfold holds
  rw [PhiN_mid m c _ (by omega) (by omega), PhiN_mid m c _ (by omega) (by omega)]
  iintro ⟨⟨%K, HS⟩, Hw, HO⟩
  unfold midS blocksS
  icases HS with ⟨Hk, HG, HY, Hi, Hoo, Hy⟩
  ihave HT := (slots_take m c t.val (stp t) (by omega)) $$ HG
  icases HT with ⟨Hs, HG⟩
  iapply (wp_wand_r frame _ Set.univ)
  isplitl [Hs HY Hi Hoo Hy Hw HO]
  · iapply (wp_of_part4 (xin m) c (grid0.coords t) (stp t) hs hl' arg4 harg4 fw (Yat m c t.val) _ _
      (part4_plain (xin m) c (grid0.coords t) (stp t) hs hj' arg4 harg4 fw (Yat m c t.val) BI.emp))
    unfold pre4
    isplitl [Hs]; · iexact Hs
    isplitl
    · isplitl [Hw]; · iexact Hw
      isplitl [HY]; · iexact HY
      isplitl [Hi]; · iexact Hi
      isplitl [Hoo]; · iexact Hoo
      isplitl [Hy]; · iexact Hy
      iexact HO
    iempintro
  iintro %v ⟨HP, -⟩
  rw [hY]
  unfold postStep
  icases HP with ⟨Hs, Hw, HY, Hi, Hoo, Hy, HO⟩
  isplitr [Hw HO]
  · iexists K
    isplitl [Hk]; · iexact Hk
    isplitl [HG Hs]
    · rw [slots_same m c t.val (by intro k hk; omega)]
      iapply HG; iexact Hs
    isplitl [HY]; · iexact HY
    isplitl [Hi]; · iexact Hi
    isplitl [Hoo]; · iexact Hoo
    iexact Hy
  isplitl [Hw]; · iexact Hw
  iexact HO

/-- The last point: the sends are waited for. -/
theorem point_last (h : t.val = 63) : holds m c t arg4 harg4 fw 0 := by
  have hc := at_coords t
  rw [h] at hc
  have hs : (grid0.coords t 0).val = 3 := hc.1
  have hst : stp t = 3 := Fin.ext hs
  have hj : (grid0.coords t 1).val ≠ 0 := by rw [hc.2]; decide
  have hl : cLast (grid0.coords t) := (cLast_iff _).2 hc
  have hY := Y_step m c t arg4 fw hw
  rw [hst] at hY
  unfold holds
  rw [h] at hY ⊢
  rw [PhiN_mid m c _ (by decide) (by decide), PhiN_end]
  iintro ⟨⟨%K, HS⟩, Hw, HO⟩
  unfold midS keep slotsS blocksS
  icases HS with ⟨⟨Hb, Hg, Hx, Hse, Hrec⟩, ⟨H0, HG⟩, HY, Hi, Hoo, Hy⟩
  ihave HT := (got_all m c) $$ HG
  icases HT with ⟨⟨H1, H2, H3⟩, Ha⟩
  iapply (wp_wand_r frame _ Set.univ)
  isplitl [H3 Hrec Hse Ha HY Hi Hoo Hy Hw HO]
  · iapply (wp_last (xin m) K c (grid0.coords t) hs hl arg4 harg4 fw (Yat m c 63) _ BI.emp
      (part4_plain (xin m) c (grid0.coords t) 3 hs hj arg4 harg4 fw (Yat m c 63) iprop(lastPre (xin m) K c ∗ BI.emp)))
    unfold pre4 lastPre
    isplitl [H3]; · iexact H3
    isplitl [HY Hi Hoo Hy Hw HO]
    · isplitl [Hw]; · iexact Hw
      isplitl [HY]; · iexact HY
      isplitl [Hi]; · iexact Hi
      isplitl [Hoo]; · iexact Hoo
      isplitl [Hy]; · iexact Hy
      iexact HO
    isplitl
    · isplitl [Hrec]; · iexact Hrec
      isplitl [Hse]; · iexact Hse
      iexact Ha
    iempintro
  iintro %v ⟨HP, HL, -⟩
  rw [hY]
  unfold postStep
  icases HP with ⟨H3, Hw, HY, Hi, Hoo, Hy, HO⟩
  isplitr [Hw HO]
  · unfold endS blocksS
    isplitl [Hb]; · iexact Hb
    isplitl [Hg]; · iexact Hg
    isplitl [Hx]; · iexact Hx
    isplitl [HL]; · iexact HL
    isplitl [H0 H1 H2 H3]
    · rw [bigSep_four]
      isplitl [H0]; · iexact H0
      isplitl [H1]; · iexact H1
      isplitl [H2]; · iexact H2
      iexact H3
    isplitl [HY]; · iexact HY
    isplitl [Hi]; · iexact Hi
    isplitl [Hoo]; · iexact Hoo
    iexact Hy
  isplitl [Hw]; · iexact Hw
  iexact HO

/-- The body at every point. -/
theorem point : holds m c t arg4 harg4 fw (if t.val = 0 then O₀ c else 0) := by
  have hN : t.val < 64 := N_0 ▸ t.isLt
  by_cases h0 : t.val = 0
  · rw [if_pos h0]; exact point_start m c t arg4 harg4 fw hw h0
  rw [if_neg h0]
  by_cases h63 : t.val = 63
  · exact point_last m c t arg4 harg4 fw hw h63
  by_cases hj : t.val % 16 = 0
  · exact point_wait m c t arg4 harg4 fw hw ⟨t.val / 16 - 1, by omega⟩ (by show t.val = 16 * (t.val / 16 - 1 + 1); omega)
  · exact point_plain m c t arg4 harg4 fw hw hj h63

end

end Cert.Proof.KernelIdeal

end
-- ==== Proof.Region.lean ====
/-
  The kernel as a region of the program: what the pipeline of blocks of w stages, and that the body meets the pipeline's demand
  at every grid point.
-/
module

public import proofs.«01_k».proof.Proof.Points
public import Idealize.ShloMosaic.Lib.Pipeline.Regions
public import Idealize.ShloMosaic.Lib.Pipeline.FrameBody

@[expose] public section

noncomputable section

namespace Cert.Proof.KernelIdeal

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The one pipeline, at each device's own order of blocks. -/
abbrev pins : (c : Dev nD) → Fin 1 → Pipeline.Cfg sig Λ₀ := Pipeline.pinD (pcfgs (F := F)) adm

/-- What the pipeline stages: the blocks of w, none changed by the body, beside the body's own invariant. A device owes the
    others its signals and its transfers before the first point and nothing after it. -/
def dat (c : Dev nD) : Dat τ (Elt F) Unit ℕ UU ℕ (cfg0 (adm (F := F) c 0)) c where
  A := fun | 0 => V2 m c main_arg1
  after := fun | 0 => fun t => Wb m c t
  Φ t := PhiN m c t.val
  q _ := fullShare
  owed t := if t.val = 0 then O₀ c else 0

/-- The same for every pipeline of the program: there is one. -/
def dats : (p : Fin 1) → (c : Dev nD) → Dat τ (Elt F) Unit ℕ UU ℕ (pins (F := F) c p) c := fun | 0 => fun c => dat m c

/-- What a device owes before a point. -/
theorem owed_at (c : Dev nD) (t : Fin ((cfg0 (adm (F := F) c 0)).N + 1)) : (dat m c).owed t = if t.val = 0 then O₀ c else 0 := rfl
/-- Before the first point everything is owed. -/
theorem owed_zero (c : Dev nD) : (dat m c).owed 0 = O₀ c := (owed_at m c 0).trans (if_pos rfl)
/-- After a point nothing is. -/
theorem owed_succ (c : Dev nD) (t : Fin grid0.N) : (dat m c).owed t.succ = 0 :=
  (owed_at m c t.succ).trans (if_neg (Nat.succ_ne_zero _))
/-- Nor at the end. -/
theorem owed_last (c : Dev nD) : (dat m c).owed (Fin.last _) = 0 :=
  (owed_at m c (Fin.last _)).trans (if_neg (by rw [Fin.val_last]; show grid0.N ≠ 0; rw [N_0]; decide))

/-- Owing O, whatever the waits so far, is what the pipeline asks where O is owed. -/
theorem owesAt_of (c : Dev nD) (t : Fin ((cfg0 (adm (F := F) c 0)).N + 1)) (O : CellTallies nD τ sig Unit) (h : (dat m c).owed t = O) :
    (iprop(∃ W, owes (c : Thread nD τ) O W) : sProp 𝕄) ⊢ ((dat m c).owesAt () t : sProp 𝕄) := by
  unfold Dat.owesAt Pipeline.owesWithin Dat.bound
  rw [h]
  iintro ⟨%W, HO⟩
  iexists W
  isplitr
  · ipureintro; exact fun _ _ => Or.inl trivial
  iexact HO

/-- And the other way. -/
theorem of_owesAt (c : Dev nD) (t : Fin ((cfg0 (adm (F := F) c 0)).N + 1)) (O : CellTallies nD τ sig Unit) (h : (dat m c).owed t = O) :
    ((dat m c).owesAt () t : sProp 𝕄) ⊢ (iprop(∃ W, owes (c : Thread nD τ) O W) : sProp 𝕄) := by
  unfold Dat.owesAt Pipeline.owesWithin
  rw [h]
  iintro ⟨%W, -, HO⟩
  iexists W
  iexact HO

/-- The body reads the whole staging buffer. -/
theorem wvOf_eq (arg4 : Memref sig .tc .vmem S2048x256 .f32) (fw : arg4.view.ref.ty.Contents (Elt F)) :
    wvOf arg4 fw = arg4.view.read (Elt F) fw := by
  funext x
  show arg4.view.read (Elt F) fw (blkR.idx x) = _
  refine congrArg _ (funext fun a => Fin.ext ?_)
  revert a
  intro a
  fin_cases a <;> exact (Nat.zero_add _).trans (Nat.one_mul _)

/-- At every point the staging buffer holds the point's block of w. -/
theorem before_eq (c : Dev nD) (t : Fin grid0.N) (d) : (dat m c).before 0 t d = Wb m c t :=
  (dat m c).before_in_eq_fetched 0 rfl (fun _ => rfl) (fun _ _ _ => rfl) (fun _ => rfl) t d

/-- The invariant before a point. -/
theorem Phi_at (c : Dev nD) (t : Fin grid0.N) : (dat m c).Φ t.castSucc = PhiN m c t.val := rfl
/-- And after it. -/
theorem Phi_next (c : Dev nD) (t : Fin grid0.N) : (dat m c).Φ t.succ = PhiN m c (t.val + 1) := rfl

/-- The buffer the body is handed at point t. -/
abbrev stg (c : Dev nD) (t : Fin grid0.N) : Fin 2 := (cfg0 (adm (F := F) c 0)).slots t 0

/-- The body the pipeline runs is the kernel's own, at the point and the buffer. -/
theorem body_eq (c : Dev nD) (t : Fin grid0.N) :
    defs₀ (F := F) .tc (cfg0 (adm (F := F) c 0)).body ((cfg0 (adm (F := F) c 0)).bodyArgs t ((cfg0 (adm (F := F) c 0)).slots t))
      = bodyAt (grid0.coords t) (spec0_0.stage (stg (F := F) c t)) (hstage0_0 ((stg (F := F) c t).cast nbuf0_0)) := rfl

/-- What the body leaves in the buffer at every point is the point's block of w. -/
theorem after_eq (c : Dev nD) (t : Fin grid0.N) : (dat m c).after 0 t = Wb m c t := rfl

/-- What is owed before a point. -/
theorem owed_cast (c : Dev nD) (t : Fin grid0.N) : (dat m c).owed t.castSucc = if t.val = 0 then O₀ c else 0 := rfl

/-- What is owed before a point and after it. -/
theorem owes_before (c : Dev nD) (t : Fin grid0.N) :
    ((dat m c).owesAt () t.castSucc : sProp 𝕄) ⊢ (iprop(∃ W, owes (c : Thread nD τ) (if t.val = 0 then O₀ c else 0) W) : sProp 𝕄) :=
  of_owesAt m c _ _ (owed_cast m c t)
/-- Nothing is owed after a point. -/
theorem owes_after (c : Dev nD) (t : Fin grid0.N) :
    (iprop(∃ W, owes (c : Thread nD τ) 0 W) : sProp 𝕄) ⊢ ((dat m c).owesAt () t.succ : sProp 𝕄) :=
  owesAt_of m c _ _ (owed_succ m c t)

/-- The body meets the pipeline's demand. -/
theorem body (c : Dev nD) : BodyObligation (dat m c) (defs₀ (F := F)) Variants.none () Set.univ := fun t => by
  rw [bigSep_W0, bigSep_W0, body_eq, Phi_at, Phi_next]
  have hb : ∀ d, (dat m c).before 0 t d = Wb m c t := before_eq m c t
  have key : ∀ fw, (spec0_0.stage (stg (F := F) c t)).view.read (Elt F) fw = Wb m c t →
      holds m c t (spec0_0.stage (stg (F := F) c t)) (hstage0_0 ((stg (F := F) c t).cast nbuf0_0)) fw (if t.val = 0 then O₀ c else 0) :=
    fun fw hf => point m c t _ _ fw ((wvOf_eq _ fw).trans hf)
  unfold owns
  iintro ⟨HΦ, HO, ⟨%d, ⟨%fw, %hf, Hw⟩⟩⟩
  rw [hb d] at hf
  have k2 := key fw hf
  unfold holds at k2
  ihave HO' := (owes_before m c t) $$ HO
  iapply (wp_wand_r frame _ Set.univ)
  isplitl [HΦ HO' Hw]
  · iapply k2
    isplitl [HΦ]; · iexact HΦ
    isplitl [Hw]; · iexact Hw
    iexact HO'
  iintro %v ⟨HΦ, Hw, HO⟩
  isplitl [HΦ]; · iexact HΦ
  isplitl [HO]
  · iapply (owes_after m c t) $$ HO
  iexists fw
  isplitr
  · ipureintro; exact hf
  iexact Hw

end Cert.Proof.KernelIdeal
-- ==== Proof.Segment.lean ====
/-
  The region's edges: what enters the kernel out of the buffers, the counters and the ghost state of the launch, and what comes
  back out of it.
-/
module

public import proofs.«01_k».proof.Proof.Region

@[expose] public section

noncomputable section

namespace Cert.Proof.KernelIdeal

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's own counters -/

/-- The counter of the copy of a device's own rows, and that of the copies of the result's blocks. -/
abbrev rowCell (c : Dev nD) : GSem nD τ sig := ((c : Thread nD τ), SemLoc.dma cc0_scratch3.sem)
/-- The cell of the block copies. -/
abbrev blkCell (c : Dev nD) : GSem nD τ sig := ((c : Thread nD τ), SemLoc.dma cc0_scratch6.sem)

/-- The eight counters of the kernel itself. -/
def osem : Fin 8 → SemLoc sig
  | 0 => .dma cc0_scratch3.sem
  | 1 => .dma (sendS 0) | 2 => .dma (sendS 1) | 3 => .dma (sendS 2)
  | 4 => .dma (recvS 0) | 5 => .dma (recvS 1) | 6 => .dma (recvS 2)
  | 7 => .dma cc0_scratch6.sem

/-- The kernel's own counters are listed once each. -/
theorem osem_facts : Pipeline.OwnSemFacts spec0 osem := by decide

/-- The counters at zero, by their uses. -/
def zeros (c : Dev nD) : sProp 𝕄 :=
  iprop(semVal (rowCell c) 0 ∗ (bigSep Finset.univ fun j => semVal (sendCell c j) 0)
    ∗ (bigSep Finset.univ fun k => semVal (recvCell c k) 0) ∗ semVal (blkCell c) 0)

/-- The eight of them, one by one. -/
theorem ownSems_list (c : Dev nD) : (Pipeline.ownSems0 osem c : sProp 𝕄)
    = iprop(semVal (rowCell c) 0 ∗ semVal (sendCell c 0) 0 ∗ semVal (sendCell c 1) 0 ∗ semVal (sendCell c 2) 0
        ∗ semVal (recvCell c 0) 0 ∗ semVal (recvCell c 1) 0 ∗ semVal (recvCell c 2) 0 ∗ semVal (blkCell c) 0) :=
  bigSep_univ_eq_bigSepL [(0 : Fin 8), 1, 2, 3, 4, 5, 6, 7] (by decide) (by decide) _

/-- They start at zero. -/
theorem zeros_of (c : Dev nD) : (Pipeline.ownSems0 osem c : sProp 𝕄) ⊢ zeros (F := F) c := by
  rw [ownSems_list]
  unfold zeros
  rw [bigSep_three, bigSep_three]
  iintro ⟨H0, H1, H2, H3, H4, H5, H6, H7⟩
  isplitl [H0]; · iexact H0
  isplitl [H1 H2 H3]
  · isplitl [H1]; · iexact H1
    isplitl [H2]; · iexact H2
    iexact H3
  isplitl [H4 H5 H6]
  · isplitl [H4]; · iexact H4
    isplitl [H5]; · iexact H5
    iexact H6
  iexact H7

/-- And are given back at zero. -/
theorem of_zeros (c : Dev nD) : zeros (F := F) c ⊢ (Pipeline.ownSems0 osem c : sProp 𝕄) := by
  rw [ownSems_list]
  unfold zeros
  rw [bigSep_three, bigSep_three]
  iintro ⟨H0, ⟨H1, H2, H3⟩, ⟨H4, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

variable (X : Dev nD → (main_v5 : Ref sig .tc).ty.Contents (Elt F))

/-- A dormant send cell opens at its counter's zero; -/
theorem open_send (K : GSem nD τ sig → ℕ) (c : Dev nD) (j : Fin 3) :
    iprop(records X K ∗ openTok ER (sendCell c j) ∗ semVal (sendCell c j) 0)
      ⊢ iprop(|={Set.univ}=> (atPos ER (sendCell c j) 0 ∅ 0 ∗ reached ER (sendCell c j) 0)) := by
  iintro ⟨#Hr, Ho, Hs⟩
  iapply (Rounds.cell_open ER (Rd X) (g := sendCell c j) (Set.mem_univ (K (sendCell c j))))
  isplitr
  · iapply (inv_send X K c j); iexact Hr
  isplitl [Ho]; · iexact Ho
  iexact Hs

/-- and so does a receive cell. -/
theorem open_recv (K : GSem nD τ sig → ℕ) (c : Dev nD) (k : Fin 3) :
    iprop(records X K ∗ openTok ER (recvCell c k) ∗ semVal (recvCell c k) 0)
      ⊢ iprop(|={Set.univ}=> (atPos ER (recvCell c k) 0 ∅ 0 ∗ reached ER (recvCell c k) 0)) := by
  iintro ⟨#Hr, Ho, Hs⟩
  iapply (Rounds.cell_open ER (Rd X) (g := recvCell c k) (Set.mem_univ (K (recvCell c k))))
  isplitr
  · iapply (inv_recv X K c k); iexact Hr
  isplitl [Ho]; · iexact Ho
  iexact Hs

/-- All six at once: the ghost state of the launch becomes that of the first point. -/
theorem opens (K : GSem nD τ sig → ℕ) (c : Dev nD) :
    iprop(ghost X K c ∗ zeros (F := F) c)
      ⊢ iprop(|={Set.univ}=> (opened X K c ∗ semVal (rowCell c) 0 ∗ semVal (blkCell c) 0)) := by
  unfold ghost opened zeros
  rw [bigSep_three fun j => openTok ER (sendCell c j), bigSep_three fun k => openTok ER (recvCell c k),
    bigSep_three fun j => semVal (sendCell c j) 0, bigSep_three fun k => semVal (recvCell c k) 0,
    bigSep_three fun j => iprop(atPos ER (sendCell c j) 0 ∅ 0 ∗ reached ER (sendCell c j) 0),
    bigSep_three fun k => iprop(atPos ER (recvCell c k) 0 ∅ 0 ∗ reached ER (recvCell c k) 0)]
  iintro ⟨⟨#Hr, Hb, Ht, ⟨O0, O1, O2⟩, ⟨P0, P1, P2⟩, Hc, Hcs⟩, Hx, ⟨S0, S1, S2⟩, ⟨R0, R1, R2⟩, Hy⟩
  imod (open_send X K c 0) $$ [O0 S0] with A0
  · isplitr; · iexact Hr
    isplitl [O0]; · iexact O0
    iexact S0
  imod (open_send X K c 1) $$ [O1 S1] with A1
  · isplitr; · iexact Hr
    isplitl [O1]; · iexact O1
    iexact S1
  imod (open_send X K c 2) $$ [O2 S2] with A2
  · isplitr; · iexact Hr
    isplitl [O2]; · iexact O2
    iexact S2
  imod (open_recv X K c 0) $$ [P0 R0] with B0
  · isplitr; · iexact Hr
    isplitl [P0]; · iexact P0
    iexact R0
  imod (open_recv X K c 1) $$ [P1 R1] with B1
  · isplitr; · iexact Hr
    isplitl [P1]; · iexact P1
    iexact R1
  imod (open_recv X K c 2) $$ [P2 R2] with B2
  · isplitr; · iexact Hr
    isplitl [P2]; · iexact P2
    iexact R2
  imodintro
  isplitr [Hx Hy]
  · isplitr; · iexact Hr
    isplitl [Hb]; · iexact Hb
    isplitl [Ht]; · iexact Ht
    isplitl [A0 A1 A2]
    · isplitl [A0]; · iexact A0
      isplitl [A1]; · iexact A1
      iexact A2
    isplitl [B0 B1 B2]
    · isplitl [B0]; · iexact B0
      isplitl [B1]; · iexact B1
      iexact B2
    isplitl [Hc]; · iexact Hc
    iexact Hcs
  isplitl [Hx]; · iexact Hx
  iexact Hy

/-! ## The buffers -/

/-- Device c's buffer b whole at contents f. -/
abbrev pt (c : Dev nD) (b : Ref sig .tc) (f : b.ty.Contents (Elt F)) : sProp 𝕄 := ((c : Thread nD τ).loc b) ↦{fullShare} f

/-- The buffers the kernel works on, its first operand beside them. -/
def five : Finset (DevRef τ sig) :=
  {Proc.devRef .tc main_arg0, Proc.devRef .tc main_arg1, Proc.devRef .tc main_v5, Proc.devRef .tc main_v8, Proc.devRef .tc main_v9}

/-- The five are among the program's buffers. -/
theorem five_sub : five ⊆ Pipeline.ucRefs τ sig := by
  intro b hb
  simp only [five, Finset.mem_insert, Finset.mem_singleton] at hb
  rcases hb with rfl | rfl | rfl | rfl | rfl <;>
    exact Finset.mem_filter.mpr ⟨StableHlo.devRef_mem_tcRefs _, by decide⟩

/-- Holding the five, one by one. -/
theorem held_five (c : Dev nD) (W : Valuation τ sig (Elt F)) : (StableHlo.held (c : Thread nD τ) five W : sProp 𝕄)
    = iprop(pt c main_arg0 (W main_arg0) ∗ pt c main_arg1 (W main_arg1) ∗ pt c main_v5 (W main_v5) ∗ pt c main_v8 (W main_v8)
        ∗ pt c main_v9 (W main_v9)) := by
  unfold StableHlo.held
  rw [bigSep_eq_bigSepL_of_eq [Proc.devRef .tc main_arg0, Proc.devRef .tc main_arg1, Proc.devRef .tc main_v5, Proc.devRef .tc main_v8,
    Proc.devRef .tc main_v9] (by decide) (by decide)]
  rfl

/-- The five, taken out of the program's buffers. -/
theorem take_five (c : Dev nD) (W : Valuation τ sig (Elt F)) : (StableHlo.held (c : Thread nD τ) (Pipeline.ucRefs τ sig) W : sProp 𝕄)
    ⊢ iprop(pt c main_arg0 (W main_arg0) ∗ pt c main_arg1 (W main_arg1) ∗ pt c main_v5 (W main_v5) ∗ pt c main_v8 (W main_v8)
        ∗ pt c main_v9 (W main_v9)) := by
  rw [StableHlo.held_sub_split (c : Thread nD τ) five_sub W, held_five]
  exact sep_elim_left

/-- The result's memref is its buffer. -/
theorem y_whole (c : Dev nD) (f : (main_v9 : Ref sig .tc).ty.Contents (Elt F)) : bufPts c yM f = pt c main_v9 f := by
  unfold bufPts; rw [show (yM : Memref sig .tc .hbm S2048x4096 .f32).view.set = Finset.univ from View.set_whole _]
/-- So is the block before a step. -/
theorem i_whole (c : Dev nD) (f : (cc0_scratch1 : Ref sig .tc).ty.Contents (Elt F)) : bufPts c iM f = pt c cc0_scratch1 f := by
  unfold bufPts; rw [show (iM : Memref sig .tc .vmem S2048x256 .f32).view.set = Finset.univ from View.set_whole _]
/-- And the block after it. -/
theorem o_whole (c : Dev nD) (f : (cc0_scratch2 : Ref sig .tc).ty.Contents (Elt F)) : bufPts c oM f = pt c cc0_scratch2 f := by
  unfold bufPts; rw [show (oM : Memref sig .tc .vmem S2048x256 .f32).view.set = Finset.univ from View.set_whole _]

end Cert.Proof.KernelIdeal
-- ==== Proof.Edges.lean ====
/-
  The kernel's segment of the program: its four edges, its waits, and the record of them all.
-/
module

public import proofs.«01_k».proof.Proof.Segment

@[expose] public section

noncomputable section

namespace Cert.Proof.KernelIdeal

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The four edges -/

/-- What a device enters the kernel with, -/
def before (c : Dev nD) : sProp 𝕄 :=
  iprop(StableHlo.held (c : Thread nD τ) (Pipeline.ucRefs τ sig) (V2 m c) ∗ (∃ K, ghost (xin m) K c) ∗ ∃ W, owes (c : Thread nD τ) (O₀ c) W)

/-- and what it leaves it with: the operands as they were, the result, its barrier counter at zero, nothing owed. -/
def left (c : Dev nD) : sProp 𝕄 :=
  iprop(pt c main_arg0 (V2 m c main_arg0) ∗ pt c main_arg1 (V2 m c main_arg1) ∗ pt c main_v9 (Yat m c 64) ∗ semVal (barCell c) 0)

/-- What goes into the body's invariant. -/
def into (c : Dev nD) : sProp 𝕄 :=
  iprop(levAts L lv ∗ (∃ K, opened (xin m) K c) ∗ semVal (rowCell c) 0 ∗ semVal (blkCell c) 0 ∗ pt c main_v5 (xin m c) ∗ pt c main_v9 (Yat m c 0))

/-- What comes out of it. -/
def outof (c : Dev nD) : sProp 𝕄 := iprop(pt c main_v9 (Yat m c 64) ∗ semVal (barCell c) 0)

/-- The windowed operands: w alone. -/
theorem arrays_one (c : Dev nD) (Fa) : ((dat m c).arrays Fa : sProp 𝕄) = pt c main_arg1 (Fa 0) := by
  unfold Dat.arrays
  rw [bigSep_W0, (arr_whole0 0).set_eq_univ]
  rfl

/-- Which the pipeline only reads. -/
theorem arr_kept (c : Dev nD) (n : ℕ) : (dat m c).arrAt 0 n = V2 m c main_arg1 := (dat m c).arrAt_in 0 rfl n

/-- The prefetched table, as the points-to it is. -/
theorem pref_one (c : Dev nD) : (Pipeline.prefHeld pre0 c (fun _ => fullShare) (tbl (F := F) c) : sProp 𝕄) = pt c main_v8 (tbl (F := F) c 0) :=
  bigSep_univ_eq_bigSepL [(0 : Fin 1)] (by decide) (by decide) _

/-- The resources at the kernel's entry, dealt to the pipeline and the body. -/
theorem entry (c : Dev nD) : iprop(before m c ∗ Pipeline.ownSems0 osem c ∗ levAts L lv)
    ⊢ iprop(|={Set.univ}=> ((dat m c).arrays ((dat m c).arrAt · 0) ∗ Pipeline.prefHeld pre0 c (fun _ => fullShare) (tbl (F := F) c)
        ∗ (dat m c).owesAt () 0 ∗ into m c ∗ pt c main_arg0 (V2 m c main_arg0))) := by
  rw [arrays_one, arr_kept, pref_one, ← V_tbl m c]
  unfold before into
  iintro ⟨⟨Hh, ⟨%K, Hg⟩, HO⟩, Hz, #Hl⟩
  ihave H5 := (take_five c (V2 m c)) $$ Hh
  icases H5 with ⟨H0, H1, Hx, Ht, Hy⟩
  ihave Hz := (zeros_of (F := F) c) $$ Hz
  imod (opens (xin m) K c) $$ [Hg Hz] with ⟨Ho, Hr, Hb⟩
  · isplitl [Hg]; · iexact Hg
    iexact Hz
  imodintro
  isplitl [H1]; · iexact H1
  isplitl [Ht]; · iexact Ht
  isplitl [HO]; · iapply (owesAt_of m c 0 (O₀ c) (owed_zero m c)) $$ HO
  isplitr [H0]
  · isplitr; · iexact Hl
    isplitl [Ho]; · iexists K; iexact Ho
    isplitl [Hr]; · iexact Hr
    isplitl [Hb]; · iexact Hb
    isplitl [Hx]; · iexact Hx
    iexact Hy
  iexact H0

/-- With the scratch, they make the body's invariant at the first point. -/
theorem enters (c : Dev nD) : iprop(into m c ∗ Pipeline.prefHeld pre0 c (fun _ => fullShare) (tbl (F := F) c) ∗ Pipeline.scopedRest spec0 c)
    ⊢ PhiN m c 0 := by
  rw [PhiN_zero, scopedRest0_eq]
  unfold into startS
  rw [bigSep_three fun j : Fin 3 => rowPts c (rot c (far j)) (xin m c),
    bigSep_three fun k : Fin 3 => iprop(∃ f, slotPts c k.succ f), y_whole]
  iintro ⟨⟨#Hl, ⟨%K, Ho⟩, Hr, Hb, Hx, Hy⟩, -, ⟨⟨%f, Hg⟩, ⟨%fi, Hi⟩, ⟨%fo, Ho2⟩⟩⟩
  ihave HS := (Entails.of_eq ((slots_split c f).trans (bigSep_four fun s => slotPts c s f))) $$ Hg
  icases HS with ⟨S0, S1, S2, S3⟩
  ihave HX := (Entails.of_eq ((rows_split c (xin m c)).trans (bigSep_rot c fun b => rowPts c b (xin m c)))) $$ Hx
  icases HX with ⟨X0, X1, X2, X3⟩
  iexists K
  isplitr; · iexact Hl
  isplitl [Ho]; · iexact Ho
  isplitl [X0]; · iexact X0
  isplitl [X1 X2 X3]
  · isplitl [X1]; · iexact X1
    isplitl [X2]; · iexact X2
    iexact X3
  isplitl [S0]; · iexists f; iexact S0
  isplitl [S1 S2 S3]
  · isplitl [S1]; · iexists f; iexact S1
    isplitl [S2]; · iexists f; iexact S2
    iexists f; iexact S3
  isplitl [Hr]; · iexact Hr
  isplitl [Hy]; · iexact Hy
  isplitl [Hi]
  · iexists fi; iapply (Entails.of_eq (i_whole c fi).symm) $$ Hi
  isplitl [Ho2]
  · iexists fo; iapply (Entails.of_eq (o_whole c fo).symm) $$ Ho2
  iexact Hb

/-- The invariant after the last point, taken apart. -/
theorem leaves (c : Dev nD) : PhiN m c 64 ⊢ iprop(outof m c ∗ Pipeline.ownSems0 osem c ∗ Pipeline.scopedRest spec0 c) := by
  rw [PhiN_end, scopedRest0_eq]
  unfold endS outof lastPost blocksS
  rw [y_whole]
  iintro ⟨Hbar, Hr, -, ⟨-, Hs, Hv⟩, HS, Hy, ⟨%fi, Hi⟩, ⟨%fo, Ho⟩, Hb⟩
  ihave HG := (Entails.of_eq (slots_split c (xg (xin m) c)).symm) $$ HS
  isplitl [Hy Hbar]
  · isplitl [Hy]; · iexact Hy
    iexact Hbar
  isplitl [Hr Hs Hv Hb]
  · iapply (of_zeros (F := F) c)
    unfold zeros
    isplitl [Hr]; · iexact Hr
    isplitl [Hs]; · iexact Hs
    isplitl [Hv]; · iexact Hv
    iexact Hb
  isplitl [HG]; · iexists (xg (xin m) c); iexact HG
  isplitl [Hi]
  · iexists fi; iapply (Entails.of_eq (i_whole c fi)) $$ Hi
  iexists fo; iapply (Entails.of_eq (o_whole c fo)) $$ Ho

/-- And put together as what the kernel leaves. -/
theorem exit (c : Dev nD) : iprop((dat m c).arrays ((dat m c).arrAt · (cfg0 (adm (F := F) c 0)).N) ∗ (dat m c).owesAt () (Fin.last _) ∗ outof m c
      ∗ pt c main_arg0 (V2 m c main_arg0))
    ⊢ iprop(|={Set.univ}=> (left m c ∗ ∃ W, owes (c : Thread nD τ) 0 W)) := by
  rw [arrays_one, arr_kept]
  unfold outof left
  iintro ⟨H1, HO, ⟨Hy, Hb⟩, H0⟩
  imodintro
  isplitr [HO]
  · isplitl [H0]; · iexact H0
    isplitl [H1]; · iexact H1
    isplitl [Hy]; · iexact Hy
    iexact Hb
  iapply (of_owesAt m c _ 0 (owed_last m c)) $$ HO

/-- The pipeline's own waits are on counters of the lowest level. -/
theorem low_stage : ∀ (c : Dev nD) (s : Fin 2), lv ((c : Thread nD τ), SemLoc.dma (sem0_0 s)) () = 0 := by
  have h : ∀ (s : Fin 2), ¬ ∃ k, (SemLoc.dma (sem0_0 s) : SemLoc sig) = .dma (recvS k) := by decide
  exact fun c s => (if_neg (dma_ne_bar _)).trans (if_neg (h s))

/-- The pipeline's own waits are below every duty. -/
theorem waits (c : Dev nD) : (levAts L lv : sProp 𝕄) ⊢ Pipeline.PerCore.cellsWaits (pins (F := F)) (dats m) () 0 c :=
  Pipeline.PerCore.cellsWaits_intro (pins (F := F)) (dats m) () 0 c fun w s t => by
    obtain rfl : w = 0 := Subsingleton.elim _ _
    show _ ⊢ MayWait (c : Thread nD τ) (.dma (sem0_0 s)) () ((dat m c).owed t)
    rw [owed_at]
    by_cases h : t.val = 0
    · rw [if_pos h]; exact mayWait_low c _ (low_stage c s)
    · rw [if_neg h, MayWait_zero]; iintro -; iempintro

/-- The kernel as a segment of the program. -/
def reg : Pipeline.PerCore.RegionSeg (pcfgs (F := F)) adm (dats m) () (defs₀ (F := F)) Variants.none L lv 0 where
  win := launch0.win.to₀
  block_pos := block_pos0
  stage_whole := stage_whole0
  K := Fin 8
  osem := osem
  ho := osem_facts
  hbody c := (body m c).loose
  hwaits c := waits m c
  pre := before m
  post c := iprop(left m c ∗ ∃ W, owes (c : Thread nD τ) 0 W)
  X := into m
  Y := outof m
  Z c := pt c main_arg0 (V2 m c main_arg0)
  hentry := entry m
  hin := enters m
  hout := leaves m
  hexit := exit m

end Cert.Proof.KernelIdeal
-- ==== Proof.Fund.lean ====
/-
  What a launch is funded with: the protocol's cells, the tokens of its duties, the credit of what the devices owe each other.
-/
module

public import proofs.«01_k».proof.Proof.Edges

@[expose] public section

noncomputable section

namespace Cert.Proof.KernelIdeal

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

/-- The semaphores of the send and receive cells. -/
def moveS (q : Fin 2 × Fin 3) : SemLoc sig := if q.1 = 0 then .dma (sendS q.2) else .dma (recvS q.2)

/-- The move semaphores are all different. -/
theorem moveS_inj : Function.Injective moveS := by decide
/-- And none is the barrier. -/
theorem moveS_ne : ∀ q, moveS q ≠ .reg barS := by decide

/-- The barrier cells, one of each device. -/
def barEmb : Dev nD ↪ GSem nD τ sig := ⟨fun c => barCell c, fun _ _ h => congrArg (fun g : GSem nD τ sig => g.1.1) h⟩
/-- The move cells, six of each device. -/
def moveEmb : Dev nD × (Fin 2 × Fin 3) ↪ GSem nD τ sig :=
  ⟨fun x => ((x.1 : Thread nD τ), moveS x.2), fun _ _ h =>
    Prod.ext (congrArg (fun g : GSem nD τ sig => g.1.1) h) (moveS_inj (congrArg Prod.snd h))⟩

/-- The barrier cells, live from the start; the send and receive cells, dormant until the kernel. -/
abbrev barCells : Finset (GSem nD τ sig) := Finset.univ.map barEmb
/-- All of them. -/
abbrev moveCells : Finset (GSem nD τ sig) := Finset.univ.map moveEmb

/-- The two kinds do not meet. -/
theorem cells_disjoint : Disjoint (barCells : Finset (GSem nD τ sig)) moveCells := by
  rw [Finset.disjoint_left]
  rintro g h₁ h₂
  obtain ⟨c, -, rfl⟩ := Finset.mem_map.mp h₁
  obtain ⟨x, -, h⟩ := Finset.mem_map.mp h₂
  exact moveS_ne x.2 (congrArg Prod.snd h)

/-- Barrier cells are funded. -/
theorem bar_mem (c : Dev nD) : barCell c ∈ (barCells ∪ moveCells : Finset (GSem nD τ sig)) :=
  Finset.mem_union_left _ (Finset.mem_map_of_mem barEmb (Finset.mem_univ c))
/-- Send cells are funded. -/
theorem send_mem (c : Dev nD) (j : Fin 3) : sendCell c j ∈ (barCells ∪ moveCells : Finset (GSem nD τ sig)) :=
  Finset.mem_union_right _ (Finset.mem_map_of_mem moveEmb (Finset.mem_univ (c, ((0 : Fin 2), j))))
/-- Receive cells are funded. -/
theorem recv_mem (c : Dev nD) (k : Fin 3) : recvCell c k ∈ (barCells ∪ moveCells : Finset (GSem nD τ sig)) :=
  Finset.mem_union_right _ (Finset.mem_map_of_mem moveEmb (Finset.mem_univ (c, ((1 : Fin 2), k))))
/-- So is every cell of the list. -/
theorem at_mem : ∀ p : Dev nD × Fin 7, cellAt p ∈ (barCells ∪ moveCells : Finset (GSem nD τ sig))
  | (c, 0) => bar_mem c
  | (c, 1) => send_mem c 0 | (c, 2) => send_mem c 1 | (c, 3) => send_mem c 2
  | (c, 4) => recv_mem c 0 | (c, 5) => recv_mem c 1 | (c, 6) => recv_mem c 2

/-- The duty device c pays at its j-th receiver: the receiver's barrier, c's own send, the receiver's receive. -/
def duty (x : Dev nD × (Fin 3 × Fin 3)) : GSem nD τ sig × ℕ × Fin 3 :=
  match x.2.2 with
  | 0 => (barCell (rot x.1 (far x.2.1)), 0, x.2.1.rev)
  | 1 => (sendCell x.1 x.2.1, 0, 0)
  | 2 => (recvCell (rot x.1 (far x.2.1)) (recvOf x.2.1), 0, 0)

/-- A duty's device, its kind, its place. -/
def dutyKey (y : GSem nD τ sig × ℕ × Fin 3) : Fin 4 × SemLoc sig × Fin 3 := (y.1.1.1, y.1.2, y.2.2)

/-- Duties that differ differ in their keys. -/
theorem duty_key : Function.Injective fun x => dutyKey (duty x) := by decide +kernel
/-- So no duty is dealt twice. -/
theorem duty_inj : Function.Injective duty := fun x y h => duty_key (congrArg dutyKey h)

/-- Every duty's token. -/
def allToks : Finset (GSem nD τ sig × ℕ × Fin 3) := Finset.univ.map ⟨duty, duty_inj⟩

/-- The tokens, dealt by the device and the send that spend them. -/
theorem toks_eq : bigSep allToks (fun x => (dutyTok ER x.1 x.2.1 x.2.2 : sProp 𝕄))
    = bigSep Finset.univ fun c : Dev nD => bigSep Finset.univ fun j : Fin 3 => (toks c j : sProp 𝕄) := by
  unfold allToks
  rw [bigSep_map, bigSep_univ_prod]
  refine bigSep_congr fun c _ => ?_
  rw [bigSep_univ_prod]
  refine bigSep_congr fun j _ => ?_
  rw [bigSep_three]
  rfl

/-- The move cells' openings, by the device that owns them. -/
theorem opens_eq : bigSep moveCells (fun g => (openTok ER g : sProp 𝕄))
    = bigSep Finset.univ fun c : Dev nD => iprop(bigSep Finset.univ (fun j => (openTok ER (sendCell c j) : sProp 𝕄))
        ∗ bigSep Finset.univ fun k => openTok ER (recvCell c k)) := by
  rw [bigSep_map, bigSep_univ_prod]
  refine bigSep_congr fun c _ => ?_
  rw [bigSep_univ_prod]
  exact BI.bigSep_fin_two _

/-! ## The credit a launch owing O₀ begins with -/

/-- Barrier cells agree when the devices do. -/
theorem bar_eq (c d : Dev nD) : (barCell c = barCell d) = (c = d) :=
  propext (Iff.intro (fun h => congrArg (fun g : GSem nD τ sig => g.1.1) h) fun h => h ▸ rfl)
/-- Receive semaphores agree when the slots do. -/
theorem recvS_inj : ∀ k l : Fin 3, (SemLoc.dma (recvS k) : SemLoc sig) = .dma (recvS l) → k = l := by decide
/-- Receive cells agree when the device and the slot do. -/
theorem recv_eq (c d : Dev nD) (k l : Fin 3) : (recvCell c k = recvCell d l) = (c = d ∧ k = l) :=
  propext (Iff.intro (fun h => ⟨congrArg (fun g : GSem nD τ sig => g.1.1) h, recvS_inj k l (congrArg Prod.snd h)⟩) fun h => h.1 ▸ h.2 ▸ rfl)
/-- A barrier cell is no receive cell. -/
theorem bar_recv (c d : Dev nD) (l : Fin 3) : (barCell c = recvCell d l) = False :=
  propext (Iff.intro (fun h => dma_ne_bar _ (congrArg Prod.snd h).symm) False.elim)
/-- Nor the other way round. -/
theorem recv_bar (c d : Dev nD) (k : Fin 3) : (recvCell c k = barCell d) = False :=
  propext (Iff.intro (fun h => dma_ne_bar _ (congrArg Prod.snd h)) False.elim)

/-- A conditional amount is a conditional one, that many times. -/
theorem ite_mul_one (P : Prop) [Decidable P] (n : ℕ) : (if P then n else 0) = (if P then 1 else 0) * n := by
  split
  · exact (Nat.one_mul n).symm
  · exact (Nat.zero_mul n).symm

/-- Every other device owes a device's barrier one signal; -/
theorem owed_bar (d c : Dev nD) : O₀ d (barCell c) () = if d = c then 0 else 1 := by
  unfold O₀ Orecv owesRecv owesBar
  simp only [Pi.add_apply, Finsupp.add_apply, tallyAt_apply, bar_recv, bar_eq, false_and, if_false, and_true]
  revert c d; decide

/-- and the device whose rows go into its slot k + 1 owes its k-th receive cell one transfer. -/
theorem owed_recv (d c : Dev nD) (k : Fin 3) : O₀ d (recvCell c k) () = if d = snd c k.succ then N else 0 := by
  have key : ∀ (d c : Dev nD) (k : Fin 3), (if c = rot d (far 2) ∧ k = recvOf 2 then 1 else 0) + (if c = rot d (far 1) ∧ k = recvOf 1 then 1 else 0)
      + (if c = rot d (far 0) ∧ k = recvOf 0 then 1 else 0) = if d = snd c k.succ then 1 else 0 := by decide
  unfold O₀ Orecv owesRecv owesBar
  simp only [Pi.add_apply, Finsupp.add_apply, tallyAt_apply, recv_bar, recv_eq, false_and, if_false, and_true, Nat.add_zero]
  generalize N = n
  rw [ite_mul_one (c = rot d (far 2) ∧ k = recvOf 2) n, ite_mul_one (c = rot d (far 1) ∧ k = recvOf 1) n,
    ite_mul_one (c = rot d (far 0) ∧ k = recvOf 0) n, ite_mul_one (d = snd c k.succ) n, ← Nat.add_mul, ← Nat.add_mul, key]

/-- A device's credit on its barrier. -/
theorem credit_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c]
  revert c; decide

/-- And on its k-th receive semaphore. -/
theorem credit_recv (c : Dev nD) (k : Fin 3) :
    tallyOn (recvCell c k) (launchCredit (Pipeline.owing O₀) 0 (recvCell c k)) = (tallyAt (recvCell c k) () N : CellTallies nD τ sig Unit) := by
  unfold tallyAt
  refine congrArg _ (Finsupp.ext fun u => ?_)
  cases u
  rw [Pipeline.launchCredit_owing, Finsupp.single_eq_same, Finset.sum_congr rfl fun d _ => owed_recv d c k,
    Finset.sum_ite_eq' Finset.univ (snd c k.succ) fun _ => N, if_pos (Finset.mem_univ _)]

/-- The launch's credits on a device. -/
theorem creds (c : Dev nD) : (Pipeline.launchCred O₀ c : sProp 𝕄)
    ⊢ iprop(cred (tallyAt (barCell c) () 3) ∗ bigSep Finset.univ fun k => cred (tallyAt (recvCell c k) () N)) := by
  unfold Pipeline.launchCred
  rw [bigSep_three, ← credit_bar, ← credit_recv, ← credit_recv, ← credit_recv,
    show (bigSep Finset.univ fun sm : SemLoc sig => (cred (tallyOn ((c : Thread nD τ), sm) (launchCredit (Pipeline.owing O₀) 0 ((c : Thread nD τ), sm))) : sProp 𝕄))
      = iprop(cred (tallyOn (barCell c) (launchCredit (Pipeline.owing O₀) 0 (barCell c)))
          ∗ bigSep (Finset.univ.erase (SemLoc.reg barS)) fun sm : SemLoc sig => (cred (tallyOn ((c : Thread nD τ), sm) (launchCredit (Pipeline.owing O₀) 0 ((c : Thread nD τ), sm))) : sProp 𝕄))
      from bigSep_univ_split _]
  refine sep_mono_right ?_
  rw [bigSep_erase (i := SemLoc.dma (recvS 0)) (Finset.mem_erase.mpr ⟨dma_ne_bar _, Finset.mem_univ _⟩),
    bigSep_erase (i := SemLoc.dma (recvS 1)) (by decide), bigSep_erase (i := SemLoc.dma (recvS 2)) (by decide)]
  exact sep_mono_right (sep_mono_right sep_elim_left)

end Cert.Proof.KernelIdeal
-- ==== Proof.Launch.lean ====
/-
  The launch and the run: every device's cells funded, its duties dealt, and what every execution of the program ends with.
-/
module

public import proofs.«01_k».proof.Proof.Fund
public import Idealize.ShloMosaic.Lib.Quiescent

@[expose] public section

noncomputable section

namespace Cert.Proof.KernelIdeal

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- No two staging cells coincide. -/
theorem pins_inj : Function.Injective (Pipeline.PerCore.cellOf (nD := nD) (τ := τ) (pins (F := F))) :=
  Pipeline.PerCore.cellOf_injective _ (fun _ p => by
    obtain rfl : p = 0 := Subsingleton.elim _ _
    exact (by decide : Pipeline.SpecSemsDistinct spec0)) fun _ p p' h => absurd (Subsingleton.elim p p') h

/-- The launch's element: the staging cells', and the protocol's. -/
def u₀ : UU :=
  (initOf (Pipeline.PerCore.cells (pins (F := F)) pins_inj) (Pipeline.PerCore.launchToks (pins (F := F)) pins_inj),
    (launchOf barCells moveCells allToks, 1))

/-- All of a resource on one device. -/
def onDev (c₀ : Dev nD) (R : sProp 𝕄) (c : Dev nD) : sProp 𝕄 := if c = c₀ then R else iprop(emp)
/-- And nothing on the others. -/
theorem bigSep_onDev (c₀ : Dev nD) (R : sProp 𝕄) : bigSep Finset.univ (onDev c₀ R) = R := by
  rw [show bigSep Finset.univ (onDev c₀ R) = iprop(onDev c₀ R c₀ ∗ bigSep (Finset.univ.erase c₀) (onDev c₀ R)) from bigSep_univ_split c₀,
    bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

/-- The protocol's element waits on device 0 until all is dealt at once. -/
def G : Dev nD → sProp 𝕄 := onDev 0 (BI.own (ER (launchOf barCells moveCells allToks)))

/-- The launch's element, taken apart. -/
theorem element : (ownU (u₀ (F := F)) : sProp 𝕄)
    ⊢ iprop(|={Set.univ}=> (BI.own (EP (initOf (Pipeline.PerCore.cells (pins (F := F)) pins_inj) (Pipeline.PerCore.launchToks (pins (F := F)) pins_inj)))
        ∗ bigSep Finset.univ (G (F := F)))) := by
  unfold u₀ G
  rw [bigSep_onDev]
  iintro Hu
  ihave H := (ownU_pair _ _) $$ Hu
  icases H with ⟨HP, HR⟩
  imodintro
  isplitl [HP]; · iexact HP
  iexact HR

/-- What rides beside the buffers up to the kernel. -/
def rides (c : Dev nD) : sProp 𝕄 := iprop((∃ K, ghost (xin m) K c) ∗ ∃ W, owes (c : Thread nD τ) (O₀ c) W)

/-- What a device has before the program's first operation. -/
abbrev T₀ (c : Dev nD) : sProp 𝕄 := iprop(StableHlo.held (c : Thread nD τ) (Pipeline.ucRefs τ sig) (V0 m c) ∗ rides m c)

/-- What of it is the device's alone. -/
def alone (c : Dev nD) : sProp 𝕄 :=
  iprop(atPos ER (barCell c) 0 ∅ 0 ∗ bigSep Finset.univ (toks c)
    ∗ (bigSep Finset.univ (fun j => openTok ER (sendCell c j)) ∗ bigSep Finset.univ (fun k => openTok ER (recvCell c k))))

/-- And what it holds beside it. -/
def bundle (c : Dev nD) : sProp 𝕄 :=
  iprop(StableHlo.held (c : Thread nD τ) (Pipeline.ucRefs τ sig) (V0 m c) ∗ (cred (tallyAt (barCell c) () 3) ∗ bigSep Finset.univ fun k => cred (tallyAt (recvCell c k) () N))
    ∗ owes (c : Thread nD τ) (O₀ c) ∅)

/-- The cells' invariants and what they reached, as the records everyone shares. -/
theorem records_of (κ : GSem nD τ sig → ℕ) :
    iprop((bigSep (barCells ∪ moveCells) fun g => cellInv ER (Rd (xin m)) (κ g) g) ∗ bigSep barCells fun g => reached ER g 0)
      ⊢ records (xin m) κ := by
  unfold records
  exact BIClass.sep_mono (BI.bigSep_intro_persistent fun p _ => bigSep_elim (at_mem p)) (Entails.of_eq (bigSep_map (s := Finset.univ) barEmb))

/-- A device's resources are put together. -/
theorem T₀_of (κ : GSem nD τ sig → ℕ) (c : Dev nD) : iprop(records (xin m) κ ∗ (alone c ∗ bundle m c)) ⊢ T₀ m c := by
  unfold alone bundle T₀ rides ghost
  iintro ⟨#HR, ⟨Ha, Ht, Ho, Hp⟩, Hh, ⟨Hb, Hc⟩, HO⟩
  isplitl [Hh]; · iexact Hh
  isplitr [HO]
  · iexists κ
    isplitr; · iexact HR
    isplitl [Ha]; · iexact Ha
    isplitl [Ht]; · iexact Ht
    isplitl [Ho]; · iexact Ho
    isplitl [Hp]; · iexact Hp
    isplitl [Hb]; · iexact Hb
    iexact Hc
  iexists ∅
  iexact HO

/-- The one counter that outlives the kernel is the barrier's. -/
theorem unscopedSems_one (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What the launch gives a device, sorted. -/
theorem dealt (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems_one]
  unfold bundle
  iintro ⟨Hh, Hs, HO, Hc, -, HG⟩
  ihave Hc := (creds (F := F) c) $$ Hc
  isplitl [Hh HO Hc]
  · isplitl [Hh]; · iexact Hh
    isplitl [Hc]; · iexact Hc
    iexact HO
  isplitl [Hs]; · iexact Hs
  iexact HG

/-- Everything dealt at once. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ iprop(|={Set.univ}=> (bigSep Finset.univ (T₀ m) : sProp 𝕄)) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (bundle m) ∗ (bigSep Finset.univ (fun c : Dev nD => semVal (barCell c) 0)
          ∗ BI.own (ER (launchOf barCells moveCells allToks)))) : sProp 𝕄) := by
    have e : bigSep Finset.univ (fun c : Dev nD => iprop(bundle m c ∗ (semVal (barCell c) 0 ∗ G (F := F) c)))
        = iprop(bigSep Finset.univ (bundle m) ∗ (bigSep Finset.univ (fun c : Dev nD => semVal (barCell c) 0)
          ∗ BI.own (ER (launchOf barCells moveCells allToks)))) := by
      rw [bigSep_sep', bigSep_sep', show bigSep Finset.univ (G (F := F)) = BI.own (ER (launchOf barCells moveCells allToks)) from bigSep_onDev 0 _]
    rw [← e]
    exact bigSep_mono fun c _ => dealt m ρ c
  iintro ⟨H, -⟩
  ihave H := hall $$ H
  icases H with ⟨HB, Hv, Hu⟩
  imod (Rounds.fund_launch ER (Rd (xin m)) cells_disjoint (fun g _ h => h) allToks) $$ [Hv Hu] with ⟨%κ, -, #Hinv, #Hr, Hat, Hopen, Htok⟩
  · isplitl [Hv]
    · iapply hv $$ Hv
    iexact Hu
  imodintro
  iapply (bigSep_with_persistent (R := records (xin m) κ) (Φ := fun c => iprop(alone c ∗ bundle m c)) fun c _ => T₀_of m κ c)
  isplitr
  · iapply (records_of m κ)
    isplitr; · iexact Hinv
    iexact Hr
  rw [bigSep_sep']
  isplitr [HB]
  · unfold alone
    rw [bigSep_sep', bigSep_sep']
    isplitl [Hat]; · iapply hat $$ Hat
    isplitl [Htok]; · iapply (Entails.of_eq (toks_eq (F := F))) $$ Htok
    iapply (Entails.of_eq (opens_eq (F := F))) $$ Hopen
  iexact HB

/-! ## The run -/

/-- No other semaphore is unscoped. -/
theorem unscoped_bar : ∀ sm : SemLoc sig, sm.isScoped .tc = false → sm = .reg barS := by decide

/-- The program: the operations before the kernel, and the kernel. -/
abbrev parts (c : Dev nD) : List (Pipeline.PerCore.Seg (pcfgs (F := F)) adm (dats m) () (defs₀ (F := F)) Variants.none L lv) :=
  [.host (seg0 m Variants.none L lv (fun _ => rides m) c), .host (seg1 m Variants.none L lv (fun _ => rides m)), .region (reg m)]

/-- The parts are the program. -/
theorem parts_prog (c : Dev nD) : (parts m c).map Pipeline.PerCore.Seg.prog = [
    StableHlo.seq (hostOps0 c), StableHlo.seq hostOps0_1, Prog.lift (.customCall (Pipeline.entry 0) ()) ] := rfl

/-- What is known of a device's memory at the end. -/
def ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v9) = Yat m c 64 ∧ s.sem (barCell c) = 0

/-- What is left tells the final memory. -/
theorem reads (c : Dev nD) (s' : Phys nD τ sig (Elt F)) : iprop(left m c ∗ SI s') ⊢ iprop(|={Set.univ}=> (⌜ends m c s'.mem⌝ ∗ SI s')) := by
  unfold left
  iintro ⟨⟨H0, H1, Hy, Hb⟩, HSI⟩
  icombine HSI H0 gives %h0
  icombine HSI H1 gives %h1
  icombine HSI Hy gives %hy
  icombine HSI Hb gives %hb
  imodintro
  isplitr
  · ipureintro
    exact ⟨(Buf.eq_of_forall_mem_univ h0).trans ((V2_of m c main_arg0 (by decide)).trans (V1_of m c main_arg0 (by decide))),
      (Buf.eq_of_forall_mem_univ h1).trans ((V2_of m c main_arg1 (by decide)).trans (V1_of m c main_arg1 (by decide))),
      Buf.eq_of_forall_mem_univ hy, by simpa using hb⟩
  iexact HSI

set_option backward.isDefEq.respectTransparency.types false in
/-- Every weakly fair execution ends, each device with its operands as they were and its result at Yat, all counters at zero. -/
theorem run : θ_run defs (onTc (τ := τ) (main (F := F))) ⟨m, fun _ => 0, ρ⟩ (fun r => (∀ c : Dev nD, ends m c r.2) ∧ r.2.sem = fun _ => 0) :=
  Pipeline.PerCore.θ_run_regions_kit_sems (pcfgs (F := F)) adm (dats m) () pins_inj EP (defs₀ (F := F)) Variants.none L lv m ρ main (parts m)
    (fun c Q => by
      rewrite [main_chain c, Pipeline.PerCore.Seg.run_eq_chain, parts_prog m c]
      dsimp (config := { failIfUnchanged := false }) only
      exact .rfl)
    (fun c => by simp only [parts, Pipeline.PerCore.Seg.pipes_host, Pipeline.PerCore.Seg.pipes_region, Pipeline.PerCore.Seg.pipes_nil]; decide)
    O₀ L_of_ne G u₀ element
    (T₀ m) (left m) (fun c => ⟨.rfl, .rfl, .rfl, .rfl⟩)
    (launch m ρ) (ends m) (reads m)
    (hQ := fun s h hs => ⟨h, sem_eq_zero hs fun c sm hsm => by
        obtain rfl := unscoped_bar sm hsm
        exact (h c).2.2.2⟩)

end Cert.Proof.KernelIdeal
-- ==== Proof.Value.lean ====
/-
  What the kernel computes over the extended reals: after its four steps, each device's rows of the product, made nonnegative.
-/
module

public import proofs.«01_k».proof.Proof.Launch
public import Idealize.ShloMosaic.Lib.MatmulPlain
public import Idealize.ShloMosaic.Lib.StackMember
public import Idealize.ShloMosaic.Lib.IdealHost
public import Idealize.ShloMosaic.Lib.Layout

@[expose] public section

noncomputable section

namespace Cert.Proof.KernelIdeal

open Cert.KernelIdeal Cert.KernelIdeal.Gen

open Idealize.ShloMosaic
open Idealize.ShloMosaic.TcCoe
open Idealize.ShloMosaic.Pipeline (Dat BodyObligation)
open Idealize.ShloMosaic.ValueIdx
open Idealize.SL.Sem
open scoped BigOperators

/-! ## One step's block -/

variable (X : Dev nD → (main_v5 : Ref sig .tc).ty.Contents (Elt Ideal))

/-- A row against a column. -/
def dotK (a b : Fin 2048 → EReal) : EReal := ∑ k : Fin 2048, a k * b k

/-- A product of a (2048, 2048) by a (2048, 256) block into zeros, read at an index. -/
theorem product_at (a : FVec Ideal S2048x2048 .bf16) (b : FVec Ideal S2048x256 .bf16) (r : Fin 2048) (q : Fin 256) :
    matmul dot_S2048x2048_S2048x256_S2048x256_1_0_0_1_n_n none a b (constant S2048x256 .f32 0x00000000#32) (ix2 r q)
      = dotK (fun k => a (ix2 r k)) fun k => b (ix2 k q) := by
  refine (Ideal.matmul_plain_apply none a b (constant S2048x256 .f32 0x00000000#32) r q).trans ?_
  show Ideal.ofBits .f32 0x00000000#32 + _ = _
  rw [Ideal.ofBits_zero_f32, zero_add]
  rfl

/-- Slot s of the filled buffer, as a matrix: the sender's rows for c. -/
theorem slot_at (c : Dev nD) (s : Fin 4) (r k : Fin 2048) :
    shapeCast S2048x2048 (gM.view.readAt (Elt Ideal) (slotR s).toLoadRect (xg X c)) shapeCasts_S1x2048x2048_S2048x2048 (ix2 r k)
      = X (snd c s) (rowIx c r k) := by
  refine (shapeCast_dropUnit_apply ![2048, 2048] _ shapeCasts_S1x2048x2048_S2048x2048 (ix2 r k)).trans ?_
  show X _ _ = X _ _
  have e0 : (⟨s.val + 1 * 0, by have := s.isLt; omega⟩ : Fin 4) = s := Fin.ext (by show s.val + 1 * 0 = s.val; omega)
  have er : (⟨0 + 1 * r.val, by have := r.isLt; omega⟩ : Fin 2048) = r := Fin.ext (by show 0 + 1 * r.val = r.val; omega)
  have ek : (⟨0 + 1 * k.val, by have := k.isLt; omega⟩ : Fin 2048) = k := Fin.ext (by show 0 + 1 * k.val = k.val; omega)
  exact congr (congrArg X (congrArg (snd c) e0)) (by
    show rowIx c ⟨0 + 1 * r.val, _⟩ ⟨0 + 1 * k.val, _⟩ = rowIx c r k
    rw [er, ek])

/-- The share of the product that the device's block of K at step s gives, read at an index. -/
def share (c : Dev nD) (s : Fin 4) (wv : Vec Ideal S2048x256 .f32) (r : Fin 2048) (q : Fin 256) : EReal :=
  dotK (fun k => X (snd c s) (rowIx c r k)) fun k => wv (ix2 k q)

/-- It is what the body computes. -/
theorem share_eq (c : Dev nD) (s : Fin 4) (wv : Vec Ideal S2048x256 .f32) (r : Fin 2048) (q : Fin 256) :
    matmul (φ₁ := .bf16) dot_S2048x2048_S2048x256_S2048x256_1_0_0_1_n_n none
        (shapeCast S2048x2048 (gM.view.readAt (Elt Ideal) (slotR s).toLoadRect (xg X c)) shapeCasts_S1x2048x2048_S2048x2048)
        (k0_pay5 wv) (constant S2048x256 .f32 0x00000000#32) (ix2 r q) = share X c s wv r q :=
  (product_at _ _ r q).trans (congrArg₂ dotK (funext fun k => slot_at X c s r k)
    (funext fun k => by
      unfold k0_pay5
      rw [shapeCast_self]
      rfl))

/-- What a step makes of the running sum y, of the share t. -/
def stepped : Fin 4 → EReal → EReal → EReal
  | 0, t, _ => t
  | 1, t, y => y + t
  | 2, t, y => y + t
  | 3, t, y => max (y + t) 0

/-- The block a step makes, read at an index. -/
theorem outB_at (c : Dev nD) (s : Fin 4) (wv yin : Vec Ideal S2048x256 .f32) (r : Fin 2048) (q : Fin 256) :
    outB X c s wv yin (ix2 r q) = stepped s (share X c s wv r q) (yin (ix2 r q)) := by
  match s with
  | 0 =>
    show k0_pay1 _ _ _ = _
    unfold k0_pay1
    rw [shapeCast_self]
    exact share_eq X c 0 wv r q
  | 1 =>
    show k0_pay2 _ _ _ _ = _
    unfold k0_pay2
    rw [shapeCast_self]
    exact congrArg (HAdd.hAdd (α := EReal) (β := EReal) (γ := EReal) (yin (ix2 r q))) (share_eq X c 1 wv r q)
  | 2 =>
    show k0_pay3 _ _ _ _ = _
    unfold k0_pay3
    rw [shapeCast_self]
    exact congrArg (HAdd.hAdd (α := EReal) (β := EReal) (γ := EReal) (yin (ix2 r q))) (share_eq X c 2 wv r q)
  | 3 =>
    show k0_pay4 _ _ _ _ = _
    unfold k0_pay4
    rw [shapeCast_self]
    exact congrArg₂ (max (α := EReal)) (congrArg (HAdd.hAdd (α := EReal) (β := EReal) (γ := EReal) (yin (ix2 r q))) (share_eq X c 3 wv r q)) Ideal.ofBits_zero_f32

/-! ## The result's blocks -/

/-- Where a point's block of the result starts. -/
theorem off5_at : ∀ t : Fin grid0.N, k0_off5 (grid0.coords t) 0 = 0 ∧ k0_off5 (grid0.coords t) 1 = 256 * (t.val % 16) := by decide +kernel

/-- Where block j's column q stands. -/
def col (j : Fin 16) (q : Fin 256) : Fin 4096 := ⟨256 * j.val + q.val, by have := j.isLt; have := q.isLt; omega⟩

/-- The column block of a point. -/
def cb (t : Fin grid0.N) : Fin 16 := ⟨t.val % 16, Nat.mod_lt _ (by decide)⟩

/-- Where the block's elements stand. -/
theorem yR_emb (t : Fin grid0.N) (r : Fin 2048) (q : Fin 256) :
    (yR (grid0.coords t)).view.emb (ix2 r q) = (ix2 r (col (cb t) q) : S2048x4096.Idx) := by
  obtain ⟨h0, h1⟩ := off5_at t
  funext a
  match a with
  | 0 =>
    refine Fin.ext ?_
    show k0_off5 (grid0.coords t) 0 + 1 * r.val = r.val
    omega
  | 1 =>
    refine Fin.ext ?_
    show k0_off5 (grid0.coords t) 1 + 1 * q.val = 256 * (t.val % 16) + q.val
    omega

/-- A point steps its own block -/
theorem next_on (c : Dev nD) (t : Fin grid0.N) (s : Fin 4) (wv : Vec Ideal S2048x256 .f32) (Y : (main_v9 : Ref sig .tc).ty.Contents (Elt Ideal))
    (r : Fin 2048) (q : Fin 256) :
    Ynext X c (grid0.coords t) s wv Y (ix2 r (col (cb t) q)) = stepped s (share X c s wv r q) (Y (ix2 r (col (cb t) q))) := by
  unfold Ynext
  rw [← yR_emb t r q]
  refine (View.write_emb_of_mem _ _ (Finset.mem_univ _)).trans ?_
  exact outB_at X c s wv _ r q

/-- and leaves the others. -/
theorem next_off (c : Dev nD) (t : Fin grid0.N) (s : Fin 4) (wv : Vec Ideal S2048x256 .f32) (Y : (main_v9 : Ref sig .tc).ty.Contents (Elt Ideal))
    (r : Fin 2048) (j : Fin 16) (q : Fin 256) (h : j ≠ cb t) :
    Ynext X c (grid0.coords t) s wv Y (ix2 r (col j q)) = Y (ix2 r (col j q)) := by
  unfold Ynext
  refine View.write_of_not_mem _ _ _ fun hm => ?_
  unfold View.setOn at hm
  obtain ⟨x, -, hx⟩ := Finset.mem_map.1 hm
  obtain ⟨a, b, rfl⟩ : ∃ a b, x = ix2 a b := ⟨_, _, eq_ix2 x⟩
  have e : 256 * (t.val % 16) + b.val = 256 * j.val + q.val :=
    congrArg Fin.val (congrFun ((yR_emb t a b).symm.trans hx) 1)
  have := b.isLt
  have := q.isLt
  exact h (Fin.ext (by show j.val = t.val % 16; omega))

/-! ## The four steps -/

variable (m : (ℓ : Loc nD τ sig) → Buf (Elt Ideal) ℓ)

/-- Device d's x. -/
def xv (d : Dev nD) (i : S8192x2048.Idx) : EReal := m ((d : Thread nD τ).loc main_arg0) i
/-- c's w. -/
def wv (c : Dev nD) (i : S8192x4096.Idx) : EReal := m ((c : Thread nD τ).loc main_arg1) i

/-- Row 2048 d + k of a matrix with 8192. -/
def row (d : Fin 4) (k : Fin 2048) : Fin 8192 := ⟨2048 * d.val + k.val, by have := d.isLt; have := k.isLt; omega⟩

/-- The share of device d's block of K in c's result at (r, q). -/
def part (c d : Dev nD) (r : Fin 2048) (q : Fin 4096) : EReal :=
  dotK (fun k => xv m d (rowIx c r k)) fun k => wv m c (ix2 (row d k) q)

/-- What is sent is x: over the extended reals a cast changes nothing. -/
theorem xin_at (d : Dev nD) (i : S8192x2048.Idx) : @Eq EReal (xin m d i) (xv m d i) := by
  unfold xin V2 V1
  after_results_simp
  rfl

/-- The block of w at a point, read at an index. -/
theorem Wb_at (c : Dev nD) (t : Fin grid0.N) (k : Fin 2048) (q : Fin 256) :
    Wb m c t (ix2 k q) = wv m c (ix2 (row (snd c (stp t)) k) (col (cb t) q)) := by
  unfold Wb wv
  rw [show V2 m c main_arg1 = m ((c : Thread nD τ).loc main_arg1) from (V2_of m c main_arg1 (by decide)).trans (V1_of m c main_arg1 (by decide))]
  show m _ _ = m _ _
  congr 1
  have e := tbl_at (F := Ideal) c (grid0.coords t)
  funext a
  match a with
  | 0 =>
    refine Fin.ext ?_
    show cc0_transform_1 Gen.facts.k0_off1_inb Gen.facts.numel1_S1 (tbl (F := Ideal) c) (grid0.coords t) 0 * 2048 + 1 * k.val = 2048 * (snd c (stp t)).val + k.val
    rw [e]
    show (snd c (stp t)).val * 2048 + 1 * k.val = _
    omega
  | 1 =>
    refine Fin.ext ?_
    show cc0_transform_1 Gen.facts.k0_off1_inb Gen.facts.numel1_S1 (tbl (F := Ideal) c) (grid0.coords t) 1 * 256 + 1 * q.val = 256 * (t.val % 16) + q.val
    rw [e]
    show (grid0.coords t 1).val * 256 + 1 * q.val = _
    rw [(at_coords t).2]
    omega

/-- The share at a point. -/
theorem share_part (c : Dev nD) (t : Fin grid0.N) (r : Fin 2048) (q : Fin 256) :
    share (xin m) c (stp t) (Wb m c t) r q = part m c (snd c (stp t)) r (col (cb t) q) :=
  congrArg₂ dotK (funext fun k => xin_at m _ _) (funext fun k => Wb_at m c t k q)

/-- The result at (r, q) once n of its steps are done. -/
def sofar (c : Dev nD) (r : Fin 2048) (q : Fin 4096) : ℕ → EReal
  | 0 => 0
  | 1 => part m c (snd c 0) r q
  | 2 => part m c (snd c 0) r q + part m c (snd c 1) r q
  | 3 => part m c (snd c 0) r q + part m c (snd c 1) r q + part m c (snd c 2) r q
  | _ => max (part m c (snd c 0) r q + part m c (snd c 1) r q + part m c (snd c 2) r q + part m c (snd c 3) r q) 0

/-- One step more. -/
theorem sofar_succ (c : Dev nD) (r : Fin 2048) (q : Fin 4096) (s : Fin 4) (y : EReal) (h : 0 < s.val → y = sofar m c r q s.val) :
    stepped s (part m c (snd c s) r q) y = sofar m c r q (s.val + 1) := by
  match s with
  | 0 => rfl
  | 1 => rw [h (by decide)]; rfl
  | 2 => rw [h (by decide)]; rfl
  | 3 => rw [h (by decide)]; rfl

/-- How many steps of column block j are done before point n. -/
def done (n : ℕ) (j : Fin 16) : ℕ := (n + 15 - j.val) / 16

/-- A point does one step of its own block -/
theorem done_on (t : Fin grid0.N) : done t.val (cb t) = (stp t).val ∧ done (t.val + 1) (cb t) = (stp t).val + 1 := by
  have hs : (stp t).val = t.val / 16 := (at_coords t).1
  rw [hs]
  unfold done cb
  constructor <;> dsimp only <;> omega

/-- and none of the others. -/
theorem done_off (t : Fin grid0.N) (j : Fin 16) (h : j ≠ cb t) : done (t.val + 1) j = done t.val j := by
  have h' : j.val ≠ t.val % 16 := fun e => h (Fin.ext e)
  have := j.isLt
  unfold done
  omega

/-- The result's contents before point n, where a step is done. -/
theorem Yat_sofar (c : Dev nD) (r : Fin 2048) (q : Fin 256) (j : Fin 16) :
    ∀ n : ℕ, n ≤ 64 → 0 < done n j → @Eq EReal (Yat m c n (ix2 r (col j q))) (sofar m c r (col j q) (done n j))
  | 0, _, h => absurd h (by have := j.isLt; unfold done; omega)
  | n + 1, hn, h => by
    have hN : n < grid0.N := lt_N (by omega)
    have ih := Yat_sofar c r q j n (by omega)
    have ey : Yat m c (n + 1) = Ynext (xin m) c (grid0.coords ⟨n, hN⟩) (stp ⟨n, hN⟩) (Wb m c ⟨n, hN⟩) (Yat m c n) := Yat_succ m c ⟨n, hN⟩
    rw [ey]
    by_cases e : j = cb ⟨n, hN⟩
    · subst e
      obtain ⟨d0, d1⟩ := done_on ⟨n, hN⟩
      have d0 : done n (cb ⟨n, hN⟩) = (stp ⟨n, hN⟩).val := d0
      have d1 : done (n + 1) (cb ⟨n, hN⟩) = (stp ⟨n, hN⟩).val + 1 := d1
      rw [d0] at ih
      rw [d1]
      refine (next_on (xin m) c ⟨n, hN⟩ _ _ _ r q).trans ?_
      rw [share_part]
      exact sofar_succ m c r _ _ _ ih
    · have d := done_off ⟨n, hN⟩ j e
      have d : done (n + 1) j = done n j := d
      rw [d] at h ⊢
      exact (next_off (xin m) c ⟨n, hN⟩ _ _ _ r j q e).trans (ih h)

/-- The kernel's result: the four shares summed, made nonnegative. -/
theorem result_at (c : Dev nD) (r : Fin 2048) (q : Fin 4096) :
    @Eq EReal (Yat m c 64 (ix2 r q)) (max (∑ d : Fin 4, part m c d r q) 0) := by
  have hq := q.isLt
  obtain ⟨j, p, rfl⟩ : ∃ j p, q = col j p :=
    ⟨⟨q.val / 256, by omega⟩, ⟨q.val % 256, by omega⟩, Fin.ext (by show q.val = 256 * (q.val / 256) + q.val % 256; omega)⟩
  have hd : done 64 j = 4 := by have := j.isLt; unfold done; omega
  refine (Yat_sofar m c r p j 64 le_rfl (by omega)).trans ?_
  rw [hd]
  refine congrArg (fun z : EReal => max z 0) ?_
  have hb : Function.Bijective (snd c) := by revert c; decide
  rw [← Function.Bijective.sum_comp hb, Fin.sum_univ_four]

/-! ## Against the whole product -/

variable (A : (⟨2, ![8192, 8192]⟩ : Shape).Idx → EReal) (B : S8192x4096.Idx → EReal)

/-- A sum over K by devices' blocks. -/
theorem sum_blocks (f : Fin 8192 → EReal) : ∑ K : Fin 8192, f K = ∑ d : Fin 4, ∑ k : Fin 2048, f (row d k) := by
  rw [← Fintype.sum_prod_type' (fun d k => f (row d k))]
  refine (Equiv.sum_comp (finProdFinEquiv (m := 4) (n := 2048)) f).symm.trans (Finset.sum_congr rfl fun p _ => congrArg f (Fin.ext ?_))
  show p.2.val + 2048 * p.1.val = 2048 * p.1.val + p.2.val
  omega

/-- The kernel's result on device c, of the whole x and w: rows 2048 c and on of their product, made nonnegative. -/
theorem result_whole (c : Dev nD)
    (hx : ∀ d : Dev nD, m ((d : Thread nD τ).loc main_arg0) = Layout.block ⟨2, ![8192, 2048]⟩ ⟨2, ![8192, 8192]⟩ 1 4 d A)
    (hw : m ((c : Thread nD τ).loc main_arg1) = B) (r : Fin 2048) (q : Fin 4096) :
    @Eq EReal (Yat m c 64 (ix2 r q)) (max (∑ K : Fin 8192, A (ix2 (row c r) K) * B (ix2 K q)) 0) := by
  refine (result_at m c r q).trans (congrArg (fun z : EReal => max z 0) ?_)
  rw [sum_blocks]
  refine Finset.sum_congr rfl fun d _ => ?_
  unfold part dotK
  refine Finset.sum_congr rfl fun k _ => ?_
  refine congrArg₂ (HMul.hMul (α := EReal) (β := EReal) (γ := EReal)) ?_ (congrFun hw _)
  refine (congrFun (hx d) _).trans ?_
  rw [Layout.block_apply]
  refine congrArg A (funext fun a => Fin.ext ?_)
  match a with
  | 0 => rfl
  | 1 =>
    show d.val * 2048 + k.val = 2048 * d.val + k.val
    omega

end Cert.Proof.KernelIdeal

end
-- ==== Proof.lean ====
/-
  The claims, proved: the frames of the kernel, as printed and over the extended reals, and of the reference; that nothing
  was rewritten between the two kernels; and that over the extended reals the kernel's result is the reference's.
-/
module

public import proofs.«01_k».proof.Defs
public import proofs.«01_k».proof.Proof.Launch
public import proofs.«01_k».proof.Proof.Value
public import proofs.«01_k».proof.Proof.Printed.Launch
public import proofs.«01_k».proof.Proof.Gen.Kernel.Flash
public import proofs.«01_k».proof.Proof.Gen.KernelIdeal.Flash
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as printed ends with its operands as they were and every counter at zero. -/
theorem frame_kernel : Cert.quiescent_Kernel (hKernel := Cert.Kernel.Gen.facts) := fun m g _ =>
  (θ_run _ _ _).mono (fun _ h => ⟨fun c => ⟨(h.1 c).1, (h.1 c).2.1⟩, h.2⟩) (Cert.Proof.Kernel.run (F := Bits) m g)

/-- So does the kernel over the extended reals. -/
theorem frame_ideal : Cert.quiescent_KernelIdeal (hKernelIdeal := Cert.KernelIdeal.Gen.facts) := fun m g _ =>
  (θ_run _ _ _).mono (fun _ h => ⟨fun c => ⟨(h.1 c).1, (h.1 c).2.1⟩, h.2⟩) (Cert.Proof.KernelIdeal.run (F := Ideal) m g)

/-- And the reference, which has no counter. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

open Idealize.ShloMosaic.ValueIdx

/-- The reference's result, read at an index. -/
theorem reference_at (A : FVec Ideal Cert.ReferenceIdeal.S8192x8192 .f32) (B : FVec Ideal Cert.ReferenceIdeal.S8192x4096 .f32) (hb : Cert.ReferenceIdeal.S_.BroadcastsInDim Cert.ReferenceIdeal.S8192x4096 ![])
    (r : Fin 8192) (q : Fin 4096) :
    haveI := Cert.ReferenceIdeal.Gen.facts
    @Eq EReal (maximumf (Host.dotGeneral Cert.ReferenceIdeal.dot_S8192x8192_S8192x4096_S8192x4096_1_0_0_1_n_n none A B)
        (broadcastInDim Cert.ReferenceIdeal.S8192x4096 ![] hb (constant Cert.ReferenceIdeal.S_ .f32 0x00000000#32)) (ix2 r q))
      (max (∑ K : Fin 8192, (fun i => A i : Cert.ReferenceIdeal.S8192x8192.Idx → EReal) (ix2 r K) * (fun i => B i : Cert.ReferenceIdeal.S8192x4096.Idx → EReal) (ix2 K q)) 0) :=
  congrArg₂ (max (α := EReal)) (StackMember.dotGeneral_plain_apply none A B r q) Ideal.ofBits_zero_f32

/-- Over the extended reals, each device ends with its rows of the reference's result. -/
theorem same_result : Cert.algebraic_KernelIdeal_ReferenceIdeal (hKernelIdeal := Cert.KernelIdeal.Gen.facts)
    (hReferenceIdeal := Cert.ReferenceIdeal.Gen.facts) := by
  intro m g m' g' _ h
  refine ⟨_, ?_, (θ_run _ _ _).mono (fun r h => h 0) (Cert.ReferenceIdeal.Value.run (F := Ideal) m' g')⟩
  refine (θ_run _ _ _).mono (fun s hs c => ⟨(hs.1 c).2.2.1.trans ?_, (hs.1 c).1, (hs.1 c).2.1⟩) (Cert.Proof.KernelIdeal.run (F := Ideal) m g)
  funext i
  obtain ⟨r, q, rfl⟩ : ∃ r q, i = ix2 r q := ⟨_, _, eq_ix2 i⟩
  refine (Cert.Proof.KernelIdeal.result_whole m _ _ c (fun d => (h d).1) (h c).2 r q).trans ?_
  rw [Layout.block_apply]
  refine (reference_at _ _ _ (Cert.Proof.KernelIdeal.row c r) q).symm.trans (congrArg _ (funext fun a => Fin.ext ?_))
  match a with
  | 0 =>
    show 2048 * c.val + r.val = c.val * 2048 + r.val
    omega
  | 1 => rfl

theorem claim : Cert.Claim := ⟨Cert.Kernel.Gen.facts, Cert.KernelIdeal.Gen.facts, Cert.ReferenceIdeal.Gen.facts,
  frame_kernel, frame_ideal, frame_reference, trivial, same_result⟩

end Cert.Proof

end
